-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_named_and_finite [hPre_rows_named_and_finite : Cert.Pre_rows_named_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named_and_finite [hPre_rows_named_and_finite : Cert.Pre_rows_named_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_rows_named_and_finite [hKernelIdeal : Cert.KernelIdeal.Facts] [hPre_rows_named_and_finite : Cert.Pre_rows_named_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_named_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_rows_named_and_finite [hReferenceIdeal : Cert.ReferenceIdeal.Facts] [hPre_rows_named_and_finite : Cert.Pre_rows_named_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_rows_named_and_finite [hKernelIdeal : Cert.KernelIdeal.Facts] [hReferenceIdeal : Cert.ReferenceIdeal.Facts] [hPre_rows_named_and_finite : Cert.Pre_rows_named_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_named_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_rows_named_and_finite : Cert.Pre_rows_named_and_finite.Facts),
    quiescent_Kernel (hKernel := hKernel)
    ∧ quiescent_KernelIdeal (hKernelIdeal := hKernelIdeal)
    ∧ quiescent_KernelIdeal_pre_rows_named_and_finite (hKernelIdeal := hKernelIdeal) (hPre_rows_named_and_finite := hPre_rows_named_and_finite)
    ∧ quiescent_ReferenceIdeal (hReferenceIdeal := hReferenceIdeal)
    ∧ quiescent_ReferenceIdeal_pre_rows_named_and_finite (hReferenceIdeal := hReferenceIdeal) (hPre_rows_named_and_finite := hPre_rows_named_and_finite)
    ∧ preserves_Kernel_KernelIdeal
    ∧ algebraic_KernelIdeal_ReferenceIdeal_pre_rows_named_and_finite (hKernelIdeal := hKernelIdeal) (hReferenceIdeal := hReferenceIdeal) (hPre_rows_named_and_finite := hPre_rows_named_and_finite)
-- ==== Pre_rows_named_and_finite.lean ====
abbrev S50000x256 : Shape := ⟨2, ![50000, 256]⟩
abbrev S50000 : Shape := ⟨1, ![50000]⟩
abbrev S512x256 : Shape := ⟨2, ![512, 256]⟩
abbrev S256x256 : Shape := ⟨2, ![256, 256]⟩
abbrev S256 : Shape := ⟨1, ![256]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg8 : FVec F S256 .f32) (main_v5 : IVec S_ 1) (main_v9 : IVec S_ 1) (main_v13 : IVec S_ 1) (main_v14 : FVec F S256x256 .f32) (main_v15 : FVec F S256x256 .f32) : IVec S_ 1 :=
  let main_v16 : IVec S256x256 1 := cmpf .olt main_v14 main_v15
  let main_c_6 : IVec S_ 1 := constantI S_ 1 1#1
  let main_v17 : IVec S_ 1 := (fun x v => Host.reduce IntOp.andi x v reducesTo_S256x256_S_d0_1 h_S_) main_v16 main_c_6
  let main_v18 : FVec F S256 .f32 := Host.absf main_arg8
  let main_cst_7 : FVec F S_ .f32 := constant S_ .f32 0x7F800000#32
  let main_v19 : FVec F S256 .f32 := broadcastInDim S256 ![] bcast_S_S256 main_cst_7
  let main_v20 : IVec S256 1 := cmpf .olt main_v18 main_v19
  let main_c_8 : IVec S_ 1 := constantI S_ 1 1#1
  let main_v21 : IVec S_ 1 := (fun x v => Host.reduce IntOp.andi x v reducesTo_S256_S_d0 h_S_) main_v20 main_c_8
  let main_v22 : IVec S_ 1 := andi main_v5 main_v9
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S50000x256 .f32) (main_arg1 : IVec S50000 32) (main_arg2 : FVec F S512x256 .f32) (main_arg3 : FVec F S256x256 .f32) (main_arg4 : FVec F S256 .f32) (main_arg5 : FVec F S256 .f32) (main_arg6 : FVec F S256 .f32) (main_arg7 : FVec F S256x256 .f32) (main_arg8 : FVec F S256 .f32) (main_arg9 : IVec S_ 32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 512#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : FVec F S256 .f32 := Host.absf main_arg5
  let main_cst : FVec F S_ .f32 := constant S_ .f32 0x7F800000#32
  let main_v7 : FVec F S256 .f32 := broadcastInDim S256 ![] bcast_S_S256 main_cst
  let main_v8 : IVec S256 1 := cmpf .olt main_v6 main_v7
  let main_c_2 : IVec S_ 1 := constantI S_ 1 1#1
  let main_v9 : IVec S_ 1 := (fun x v => Host.reduce IntOp.andi x v reducesTo_S256_S_d0 h_S_) main_v8 main_c_2
  let main_v10 : FVec F S256 .f32 := Host.absf main_arg6
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : FVec F S256x256 .f32 := Host.absf main_arg7
  let main_cst_5 : FVec F S_ .f32 := constant S_ .f32 0x7F800000#32
  let main_v15 : FVec F S256x256 .f32 := broadcastInDim S256x256 ![] bcast_S_S256x256 main_cst_5
  fn_part1 (F := F) main_arg8 main_v5 main_v9 main_v13 main_v14 main_v15
-- ==== Kernel.lean ====
abbrev S50000x256 : Shape := ⟨2, ![50000, 256]⟩
abbrev S50000 : Shape := ⟨1, ![50000]⟩
abbrev S512x256 : Shape := ⟨2, ![512, 256]⟩
abbrev S256x256 : Shape := ⟨2, ![256, 256]⟩
abbrev S256 : Shape := ⟨1, ![256]⟩
abbrev S_ : Shape := ⟨0, ![]⟩
abbrev S25x1x2000 : Shape := ⟨3, ![25, 1, 2000]⟩
abbrev S512x1 : Shape := ⟨2, ![512, 1]⟩
abbrev S1x1x2000 : Shape := ⟨3, ![1, 1, 2000]⟩
abbrev S2000x256 : Shape := ⟨2, ![2000, 256]⟩
abbrev S1x2000 : Shape := ⟨2, ![1, 2000]⟩
abbrev S512x2000 : Shape := ⟨2, ![512, 2000]⟩
abbrev S512 : Shape := ⟨1, ![512]⟩
abbrev S1x256 : Shape := ⟨2, ![1, 256]⟩

abbrev nBuf : Space → Nat
  | .hbm => 21
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S512x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S25x1x2000, .i32⟩
  | .hbm, ⟨11, _⟩ => ⟨S512x256, .f32⟩
  | .hbm, ⟨12, _⟩ => ⟨S512x1, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S512x256, .f32⟩
  | .hbm, ⟨18, _⟩ => ⟨S512x256, .bf16⟩
  | .hbm, ⟨19, _⟩ => ⟨S512x256, .bf16⟩
  | .hbm, ⟨20, _⟩ => ⟨S50000x256, .f32⟩
  | .local _ .vmem, ⟨0, _⟩ => ⟨S1x1x2000, .i32⟩
  | .local _ .vmem, ⟨1, _⟩ => ⟨S1x1x2000, .i32⟩
  | .local _ .vmem, ⟨2, _⟩ => ⟨S2000x256, .f32⟩
  | .local _ .vmem, ⟨3, _⟩ => ⟨S2000x256, .f32⟩
  | .local _ .vmem, ⟨4, _⟩ => ⟨S512x256, .f32⟩
  | .local _ .vmem, ⟨5, _⟩ => ⟨S512x1, .f32⟩
  | .local _ .vmem, ⟨6, _⟩ => ⟨S512x256, .f32⟩
  | .local _ .vmem, ⟨7, _⟩ => ⟨S512x1, .f32⟩
  | .local _ .vmem, ⟨8, _⟩ => ⟨S512x256, .f32⟩
  | .local _ .vmem, ⟨9, _⟩ => ⟨S256x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S512x256, .f32⟩
  | .local _ .vmem, ⟨16, _⟩ => ⟨S512x256, .bf16⟩
  | .local _ .vmem, ⟨17, _⟩ => ⟨S512x256, .bf16⟩
  | .local _ .vmem, ⟨18, _⟩ => ⟨S1x1x2000, .i32⟩
  | .local _ .vmem, ⟨19, _⟩ => ⟨S1x1x2000, .i32⟩
  | .local _ .vmem, ⟨20, _⟩ => ⟨S2000x256, .f32⟩
  | .local _ .vmem, ⟨21, _⟩ => ⟨S2000x256, .f32⟩
  | .local _ .vmem, ⟨22, _⟩ => ⟨S512x256, .bf16⟩
  | .local _ .vmem, ⟨23, _⟩ => ⟨S512x256, .bf16⟩
  | .local _ .vmem, ⟨24, _⟩ => ⟨S2000x256, .f32⟩
  | .local _ .vmem, ⟨25, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_6 : BitVec 32 := 0#32
  let v23 : BitVec 1 := Scalar.cmpi .ne v22 c0_i32_6
  v23

def k0_cond2 (i : grid0.Coords) : BitVec 1 :=
  let arg0 : BitVec 32 := BitVec.ofNat 32 (i 0).val
  let c0_i32_7 : BitVec 32 := 0#32
  let v24 : BitVec 1 := Scalar.cmpi .ne arg0 c0_i32_7
  let v25 : BitVec 32 := Scalar.extui v24
  let c0_i32_8 : BitVec 32 := 0#32
  let v26 : BitVec 1 := Scalar.cmpi .ne v25 c0_i32_8
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S512x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S512x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev grid2 : Pipeline.Grid := ⟨1, ![25], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1x2000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S50000x256 : Shape := ⟨2, ![50000, 256]⟩
abbrev S50000 : Shape := ⟨1, ![50000]⟩
abbrev S512x256 : Shape := ⟨2, ![512, 256]⟩
abbrev S256x256 : Shape := ⟨2, ![256, 256]⟩
abbrev S256 : Shape := ⟨1, ![256]⟩
abbrev S_ : Shape := ⟨0, ![]⟩
abbrev S50000x1 : Shape := ⟨2, ![50000, 1]⟩
abbrev S512x1 : Shape := ⟨2, ![512, 1]⟩
abbrev S1x256 : Shape := ⟨2, ![1, 256]⟩
abbrev S512 : Shape := ⟨1, ![512]⟩

abbrev nBuf : Space → Nat
  | .hbm => 78
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S512x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S_, .f32⟩
  | .hbm, ⟨11, _⟩ => ⟨S512x256, .f32⟩
  | .hbm, ⟨12, _⟩ => ⟨S50000x1, .i32⟩
  | .hbm, ⟨13, _⟩ => ⟨S512x256, .f32⟩
  | .hbm, ⟨14, _⟩ => ⟨S_, .f32⟩
  | .hbm, ⟨15, _⟩ => ⟨S50000x1, .f32⟩
  | .hbm, ⟨16, _⟩ => ⟨S_, .f32⟩
  | .hbm, ⟨17, _⟩ => ⟨S512x1, .f32⟩
  | .hbm, ⟨18, _⟩ => ⟨S50000x1, .i32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S256x256, .f32⟩
  | .hbm, ⟨27, _⟩ => ⟨S512x256, .f32⟩
  | .hbm, ⟨28, _⟩ => ⟨S1x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S_, .f32⟩
  | .hbm, ⟨35, _⟩ => ⟨S512x1, .f32⟩
  | .hbm, ⟨36, _⟩ => ⟨S512x1, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S_, .f32⟩
  | .hbm, ⟨41, _⟩ => ⟨S512, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x256, .f32⟩
  | .hbm, ⟨47, _⟩ => ⟨S512x256, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S512x1, .f32⟩
  | .hbm, ⟨52, _⟩ => ⟨S512x256, .f32⟩
  | .hbm, ⟨53, _⟩ => ⟨S512x256, .f32⟩
  | .hbm, ⟨54, _⟩ => ⟨S1x256, .f32⟩
  | .hbm, ⟨55, _⟩ => ⟨S512x256, .f32⟩
  | .hbm, ⟨56, _⟩ => ⟨S512x256, .f32⟩
  | .hbm, ⟨57, _⟩ => ⟨S1x256, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S256x256, .f32⟩
  | .hbm, ⟨64, _⟩ => ⟨S512x256, .f32⟩
  | .hbm, ⟨65, _⟩ => ⟨S1x256, .f32⟩
  | .hbm, ⟨66, _⟩ => ⟨S512x256, .f32⟩
  | .hbm, ⟨67, _⟩ => ⟨S512x256, .f32⟩
  | .hbm, ⟨68, _⟩ => ⟨S_, .i32⟩
  | .hbm, ⟨69, _⟩ => ⟨S50000, .i32⟩
  | .hbm, ⟨70, _⟩ => ⟨S50000, .i1⟩
  | .hbm, ⟨71, _⟩ => ⟨S_, .i32⟩
  | .hbm, ⟨72, _⟩ => ⟨S50000, .i32⟩
  | .hbm, ⟨73, _⟩ => ⟨S50000, .i32⟩
  | .hbm, ⟨74, _⟩ => ⟨S50000, .i32⟩
  | .hbm, ⟨75, _⟩ => ⟨S50000x1, .i32⟩
  | .hbm, ⟨76, _⟩ => ⟨S50000x256, .f32⟩
  | .hbm, ⟨77, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Proof.KernelIdeal.Region0.lean ====
/- Region 0 of the ideal kernel: the segment sums and the row counts, accumulated over the 25 row blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.UnfoldOut
public import Idealize.ShloMosaic.Lib.WordCmp

@[expose] public section

-- rectangles of the blocks' extents are looked into once per coordinate
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two zero offsets. -/
theorem zero2 : (![0, 0] : Fin 2 → Nat) = fun _ => 0 := funext fun a => by fin_cases a <;> rfl
/-- The three zero offsets. -/
theorem zero3 : (![0, 0, 0] : Fin 3 → Nat) = fun _ => 0 := funext fun a => by fin_cases a <;> rfl

section Region
-- the buffer contents when the region is entered
variable (V : (c : Dev nD) → (b : Ref sig .tc) → Buf (Elt F) ((c : Thread nD τ).loc b))

/-- Window `w`'s block at grid point `t`, read from the array as it stands when the region is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, for any proof data that starts from the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, for any proof data that starts from the
    entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's first condition: this is the first block. -/
abbrev isFirst (i : grid0.Coords) : Prop := k0_cond1 i = 1#1
/-- The body's second condition: this is a later block. -/
abbrev isLater (i : grid0.Coords) : Prop := k0_cond2 i = 1#1
/-- The first condition holds at point 0 only. -/
theorem isFirst_iff : ∀ t : Fin cfg0.N, isFirst (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    have e1 : t.val = 0 ↔ t.val % 25 = 0 := by omega
    rw [e1]
    simp only [isFirst, k0_cond1, e0]
    word_cmp
   : ∀ t : Fin grid0.N, isFirst (grid0.coords t) ↔ t.val = 0)
/-- The second condition holds at every other point. -/
theorem isLater_iff : ∀ t : Fin cfg0.N, isLater (grid0.coords t) ↔ t.val ≠ 0 :=
  (fun t => by
    have ht : t.val < 25 := Nat.lt_of_lt_of_eq t.isLt N_0
    have e0 : (grid0.coords t 0).val = t.val / 1 % 25 := Pipeline.Grid.coords_val t 0 (by decide) rfl
    have e1 : t.val ≠ 0 ↔ 1 ≤ t.val := by omega
    rw [e1]
    simp only [isLater, k0_cond2, e0]
    word_cmp
   : ∀ t : Fin grid0.N, isLater (grid0.coords t) ↔ t.val ≠ 0)

/-- Output 2 is stored into at every point. -/
theorem live0_2 : ∀ t : Fin cfg0.N, cfg0.idle 2 (grid0.coords t) = false := by decide +kernel
/-- Whether output 2's buffer holds nothing of this run yet, by position. -/
def freshTab0_2 : ℕ → Bool
  | 0 => true
  | n + 1 => (0x1000000 : ℕ).testBit n
/-- The table follows the configuration's own step. -/
theorem freshTab0_2_step : ∀ t : Fin cfg0.N,
    freshTab0_2 (t.val + 1) = ((cfg0.win 2).flush t || (cfg0.idle 2 (cfg0.grid.coords t) && freshTab0_2 t.val)) := by decide +kernel
/-- From the second point on output 2's buffer holds what the point before left. -/
theorem notFresh0_2 : ∀ t : Fin cfg0.N, t.val ≠ 0 → cfg0.fresh 2 t.val = false := by
  intro t
  rw [Pipeline.Cfg.fresh_tab cfg0 2 freshTab0_2 rfl freshTab0_2_step t.val (Nat.le_of_lt t.isLt)]
  revert t; decide +kernel
/-- Output 3 is stored into at every point. -/
theorem live0_3 : ∀ t : Fin cfg0.N, cfg0.idle 3 (grid0.coords t) = false := by decide +kernel
/-- Whether output 3's buffer holds nothing of this run yet, by position. -/
def freshTab0_3 : ℕ → Bool
  | 0 => true
  | n + 1 => (0x1000000 : ℕ).testBit n
/-- The table follows the configuration's own step. -/
theorem freshTab0_3_step : ∀ t : Fin cfg0.N,
    freshTab0_3 (t.val + 1) = ((cfg0.win 3).flush t || (cfg0.idle 3 (cfg0.grid.coords t) && freshTab0_3 t.val)) := by decide +kernel
/-- From the second point on output 3's buffer holds what the point before left. -/
theorem notFresh0_3 : ∀ t : Fin cfg0.N, t.val ≠ 0 → cfg0.fresh 3 t.val = false := by
  intro t
  rw [Pipeline.Cfg.fresh_tab cfg0 3 freshTab0_3 rfl freshTab0_3_step t.val (Nat.le_of_lt t.isLt)]
  revert t; decide +kernel

set_option maxHeartbeats 1000000 in
/-- At the first block the body stores the block's own sums and counts. -/
theorem run0_first (c : Dev nD) (E : Set ℕ) (i : grid0.Coords) (arg1 : Memref sig .tc .vmem S1x1x2000 .i32) (harg1 : arg1.IsWhole) (arg2 : Memref sig .tc .vmem S2000x256 .f32) (harg2 : arg2.IsWhole) (arg3 : Memref sig .tc .vmem S512x256 .f32) (harg3 : arg3.IsWhole) (arg4 : Memref sig .tc .vmem S512x1 .f32) (harg4 : arg4.IsWhole) (hc0 : isFirst i) (hc1 : ¬isLater i)
    (x0 : Vec F S1x1x2000 .i32) (x1 : Vec F S2000x256 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay2 x0 x1) ∗ owns (c : Thread nD τ) arg4 fullShare (k0_pay3 x0)) -∗ K ⟨⟩))
      ⊢ wp frame (wpE (defs₀ (F := F)) Variants.none c none) E (cc0__phase_a_body i arg1 harg1 arg2 harg2 arg3 harg3 arg4 harg4) K := by
  simp only [cc0__phase_a_body_eq_skeleton]; unfold cc0__phase_a_body_skel
  unfold owns
  iintro ⟨⟨%f0, %hf0, H0⟩, ⟨%f1, %hf1, H1⟩, ⟨%d2, %f2, -, H2⟩, ⟨%d3, %f3, -, H3⟩, Hk⟩
  subst hf0 hf1
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ fun y => ⟨_, List.mem_singleton_self _, View.mem_set_unit_zero zero2 inb_S512x256_S512x256_0_0 y⟩).trans ?_
    refine (View.canon_unit_zero zero2 inb_S512x256_S512x256_0_0 _).trans ?_
    exact congr (congrArg k0_pay2 (View.ld_unit_zero zero3 inb_S1x1x2000_S1x1x2000_0_0_0 _)) (View.ld_unit_zero zero2 inb_S2000x256_S2000x256_0_0 _)
  iexists _; isplitr
  swap; · iexact H3
  ipureintro
  refine (View.read_writes_eq_canon _ _ _ fun y => ⟨_, List.mem_singleton_self _, View.mem_set_unit_zero zero2 inb_S512x1_S512x1_0_0 y⟩).trans ?_
  refine (View.canon_unit_zero zero2 inb_S512x1_S512x1_0_0 _).trans ?_
  exact congrArg k0_pay3 (View.ld_unit_zero zero3 inb_S1x1x2000_S1x1x2000_0_0_0 _)

set_option maxHeartbeats 1000000 in
/-- At a later block the body adds the block's sums and counts to what the buffers hold. -/
theorem run0_later (c : Dev nD) (E : Set ℕ) (i : grid0.Coords) (arg1 : Memref sig .tc .vmem S1x1x2000 .i32) (harg1 : arg1.IsWhole) (arg2 : Memref sig .tc .vmem S2000x256 .f32) (harg2 : arg2.IsWhole) (arg3 : Memref sig .tc .vmem S512x256 .f32) (harg3 : arg3.IsWhole) (arg4 : Memref sig .tc .vmem S512x1 .f32) (harg4 : arg4.IsWhole) (hc0 : ¬isFirst i) (hc1 : isLater i)
    (x0 : Vec F S1x1x2000 .i32) (x1 : Vec F S2000x256 .f32) (x2 : Vec F S512x256 .f32) (x3 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (iprop(owns (c : Thread nD τ) arg1 fullShare x0 ∗ owns (c : Thread nD τ) arg2 fullShare x1 ∗ owns (c : Thread nD τ) arg3 fullShare (k0_pay4 x0 x1 x2) ∗ owns (c : Thread nD τ) arg4 fullShare (k0_pay5 x0 x3)) -∗ K ⟨⟩))
      ⊢ wp frame (wpE (defs₀ (F := F)) Variants.none c none) E (cc0__phase_a_body i arg1 harg1 arg2 harg2 arg3 harg3 arg4 harg4) K := by
  simp only [cc0__phase_a_body_eq_skeleton]; unfold cc0__phase_a_body_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ fun y => ⟨_, List.mem_singleton_self _, View.mem_set_unit_zero zero2 inb_S512x256_S512x256_0_0 y⟩).trans ?_
    refine (View.canon_unit_zero zero2 inb_S512x256_S512x256_0_0 _).trans ?_
    exact congr (congr (congrArg k0_pay4 (View.ld_unit_zero zero3 inb_S1x1x2000_S1x1x2000_0_0_0 _)) (View.ld_unit_zero zero2 inb_S2000x256_S2000x256_0_0 _)) (View.ld_unit_zero zero2 inb_S512x256_S512x256_0_0 _)
  iexists _; isplitr
  swap; · iexact H3
  ipureintro
  refine (View.read_writes_eq_canon _ _ _ fun y => ⟨_, List.mem_singleton_self _, View.mem_set_unit_zero zero2 inb_S512x1_S512x1_0_0 y⟩).trans ?_
  refine (View.canon_unit_zero zero2 inb_S512x1_S512x1_0_0 _).trans ?_
  exact congr (congrArg k0_pay5 (View.ld_unit_zero zero3 inb_S1x1x2000_S1x1x2000_0_0_0 _)) (View.ld_unit_zero zero2 inb_S512x1_S512x1_0_0 _)

/-- What the two output buffers hold after the body at position `n`: the first block's sums and counts, then one
    block's added at a time. -/
def acc0 (c : Dev nD) : (n : ℕ) → n < cfg0.N → Vec F S512x256 .f32 × Vec F S512x1 .f32
  | 0, hn => (k0_pay2 (iblk0 V c 0 ⟨0, hn⟩) (iblk0 V c 1 ⟨0, hn⟩), k0_pay3 (iblk0 V c 0 ⟨0, hn⟩))
  | n + 1, hn =>
    (k0_pay4 (iblk0 V c 0 ⟨n + 1, hn⟩) (iblk0 V c 1 ⟨n + 1, hn⟩) (acc0 c n (Nat.lt_of_succ_lt hn)).1,
     k0_pay5 (iblk0 V c 0 ⟨n + 1, hn⟩) (acc0 c n (Nat.lt_of_succ_lt hn)).2)

/-- At the first point. -/
theorem acc0_first (c : Dev nD) (t : Fin cfg0.N) (h : t.val = 0) :
    acc0 V c t.val t.isLt = (k0_pay2 (iblk0 V c 0 t) (iblk0 V c 1 t), k0_pay3 (iblk0 V c 0 t)) := by
  obtain ⟨n, hn⟩ := t
  cases n with
  | zero => rfl
  | succ n => exact absurd h (Nat.succ_ne_zero n)
/-- At a later point, over the point before. -/
theorem acc0_later (c : Dev nD) (t : Fin cfg0.N) (h : t.val ≠ 0) :
    acc0 V c t.val t.isLt =
      (k0_pay4 (iblk0 V c 0 t) (iblk0 V c 1 t) (acc0 V c (t.val - 1) (Nat.lt_of_le_of_lt (Nat.sub_le _ _) t.isLt)).1,
       k0_pay5 (iblk0 V c 0 t) (acc0 V c (t.val - 1) (Nat.lt_of_le_of_lt (Nat.sub_le _ _) t.isLt)).2) := by
  obtain ⟨n, hn⟩ := t
  cases n with
  | zero => exact absurd rfl h
  | succ n => rfl

/-- The proof data of region 0: the arrays as entered; after the body at `t` every input buffer still at its block and
    every output buffer at what the body computes from them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]
/-- Input window 0's buffer after the body. -/
theorem after0_0 (c : Dev nD) (t : Fin cfg0.N) : (dat0 V c).after 0 t = iblk0 V c 0 t := by dsimp only [dat0]
/-- Input window 1's buffer after the body. -/
theorem after0_1 (c : Dev nD) (t : Fin cfg0.N) : (dat0 V c).after 1 t = iblk0 V c 1 t := by dsimp only [dat0]
/-- Output window 2's buffer after the body. -/
theorem after0_2 (c : Dev nD) (t : Fin cfg0.N) : (dat0 V c).after 2 t = (acc0 V c t.val t.isLt).1 := by dsimp only [dat0]
/-- Output window 3's buffer after the body. -/
theorem after0_3 (c : Dev nD) (t : Fin cfg0.N) : (dat0 V c).after 3 t = (acc0 V c t.val t.isLt).2 := by dsimp only [dat0]
/-- Input window 0's buffer before the body. -/
theorem before0_0 (c : Dev nD) (t : Fin cfg0.N) (d) : (dat0 V c).before 0 t d = iblk0 V c 0 t :=
  before0_0_of V (dat0 V c) (A_eq0 V c 0) (after0_0 V c) t d
/-- Input window 1's buffer before the body. -/
theorem before0_1 (c : Dev nD) (t : Fin cfg0.N) (d) : (dat0 V c).before 1 t d = iblk0 V c 1 t :=
  before0_1_of V (dat0 V c) (A_eq0 V c 1) (after0_1 V c) t d
/-- At a later point output 2's buffer holds what the point before left. -/
theorem before0_2 (c : Dev nD) (t : Fin cfg0.N) (h : t.val ≠ 0) (d) :
    (dat0 V c).before 2 t d = (acc0 V c (t.val - 1) (Nat.lt_of_le_of_lt (Nat.sub_le _ _) t.isLt)).1 := by
  rw [Dat.before_out_traj _ 2 rfl (fun _ _ => rfl)
      (fun t _ hi _ => absurd hi (by rw [live0_2 t]; exact Bool.false_ne_true)) t.val t rfl d,
    if_neg (by rw [notFresh0_2 t h]; exact Bool.false_ne_true)]
  dsimp only [dat0]
/-- At a later point output 3's buffer holds what the point before left. -/
theorem before0_3 (c : Dev nD) (t : Fin cfg0.N) (h : t.val ≠ 0) (d) :
    (dat0 V c).before 3 t d = (acc0 V c (t.val - 1) (Nat.lt_of_le_of_lt (Nat.sub_le _ _) t.isLt)).2 := by
  rw [Dat.before_out_traj _ 3 rfl (fun _ _ => rfl)
      (fun t _ hi _ => absurd hi (by rw [live0_3 t]; exact Bool.false_ne_true)) t.val t rfl d,
    if_neg (by rw [notFresh0_3 t h]; exact Bool.false_ne_true)]
  dsimp only [dat0]

/-- What the body is entered with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What the body returns at point `t`. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point, by which block it is. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [show cfg0.idle 0 (cfg0.grid.coords t) = false from rfl], after0_0]
  rw [show (dat0 V c).leavesExact 1 t = owns (c : Thread nD τ) (st0_1 t) fullShare ((dat0 V c).after 1 t) from by
    unfold Dat.leavesExact; rw [show cfg0.idle 1 (cfg0.grid.coords t) = false from rfl], after0_1]
  rw [show (dat0 V c).leavesExact 2 t = owns (c : Thread nD τ) (st0_2 t) fullShare ((dat0 V c).after 2 t) from by
    unfold Dat.leavesExact; rw [show cfg0.idle 2 (cfg0.grid.coords t) = false from live0_2 t], after0_2]
  rw [show (dat0 V c).leavesExact 3 t = owns (c : Thread nD τ) (st0_3 t) fullShare ((dat0 V c).after 3 t) from by
    unfold Dat.leavesExact; rw [show cfg0.idle 3 (cfg0.grid.coords t) = false from live0_3 t], after0_3]
  by_cases h0 : t.val = 0
  · rw [acc0_first V c t h0]
    iintro ⟨HΦ, Ho, ⟨%d0, H0⟩, ⟨%d1, H1⟩, ⟨%d2, H2⟩, ⟨%d3, H3⟩⟩
    iapply (run0_first c Set.univ (grid0.coords t) _ _ _ _ _ _ _ _ ((isFirst_iff t).mpr h0) (fun h => (isLater_iff t).mp h h0) (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc0_later V c t h0]
    simp only [before0_2 V c t h0, before0_3 V c t h0]
    iintro ⟨HΦ, Ho, ⟨%d0, H0⟩, ⟨%d1, H1⟩, ⟨%d2, H2⟩, ⟨%d3, H3⟩⟩
    iapply (run0_later c Set.univ (grid0.coords t) _ _ _ _ _ _ _ _ (fun h => h0 ((isFirst_iff t).mp h)) ((isLater_iff t).mpr h0) (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body table's entry at point `t` is the body at that point's buffers. -/
theorem defs₀_row0 (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Own

end
-- ==== Proof.KernelIdeal.Region1.lean ====
/- Region 1 of the ideal kernel: the group means through the two-layer network. -/
module

public import proofs.«01_k».proof.Proof.KernelIdeal.Region0

@[expose] public section

-- rectangles of the blocks' extents are looked into once per coordinate
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffer contents when the region is entered
variable (V : (c : Dev nD) → (b : Ref sig .tc) → Buf (Elt F) ((c : Thread nD τ).loc b))

/-- Window `w`'s block at grid point `t`, read from the array as it stands when the region is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, for any proof data that starts from the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, for any proof data that starts from the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, for any proof data that starts from the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, for any proof data that starts from the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, for any proof data that starts from the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, for any proof data that starts from the
    entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, for any proof data that starts from the
    entry contents and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, for any proof data that starts from the
    entry contents and whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, for any proof data that starts from the
    entry contents and whose body leaves the block in place. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body leaves its inputs as they are and stores its results, computed from the inputs. -/
theorem run1 (c : Dev nD) (E : Set ℕ) (arg0 : Memref sig .tc .vmem S512x256 .f32) (harg0 : arg0.IsWhole) (arg1 : Memref sig .tc .vmem S512x1 .f32) (harg1 : arg1.IsWhole) (arg2 : Memref sig .tc .vmem S512x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S512x256 .f32) (harg9 : arg9.IsWhole) (arg10 : Memref sig .tc .vmem S512x256 .bf16) (harg10 : arg10.IsWhole) (arg11 : Memref sig .tc .vmem S512x256 .bf16) (harg11 : arg11.IsWhole)
    (x0 : Vec F S512x256 .f32) (x1 : Vec F S512x1 .f32) (x2 : Vec F S512x256 .f32) (x3 : Vec F S256x256 .f32) (x4 : Vec F S1x256 .f32) (x5 : Vec F S1x256 .f32) (x6 : Vec F S1x256 .f32) (x7 : Vec F S256x256 .f32) (x8 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k1_pay1 (k1_pay4 x0 x1 x2 x3 x4 x5) x6 x7 x8) ∗ owns (c : Thread nD τ) arg10 fullShare (k1_pay2 (k1_pay4 x0 x1 x2 x3 x4 x5) x6 x7 x8) ∗ owns (c : Thread nD τ) arg11 fullShare (k1_pay3 (k1_pay4 x0 x1 x2 x3 x4 x5) x6 x7 x8)) -∗ K ⟨⟩))
      ⊢ wp frame (wpE (defs₀ (F := F)) Variants.none c none) E (cc1__phase_b_body arg0 harg0 arg1 harg1 arg2 harg2 arg3 harg3 arg4 harg4 arg5 harg5 arg6 harg6 arg7 harg7 arg8 harg8 arg9 harg9 arg10 harg10 arg11 harg11) K := by
  simp only [cc1__phase_b_body_eq_skeleton]; unfold cc1__phase_b_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ fun y => ⟨_, List.mem_singleton_self _, View.mem_set_unit_zero zero2 inb_S512x256_S512x256_0_0 y⟩).trans ?_
    refine (View.canon_unit_zero zero2 inb_S512x256_S512x256_0_0 _).trans ?_
    exact congr (congr (congr (congrArg k1_pay1 (congr (congr (congr (congr (congr (congrArg k1_pay4 (View.ld_unit_zero zero2 inb_S512x256_S512x256_0_0 _)) (View.ld_unit_zero zero2 inb_S512x1_S512x1_0_0 _)) (View.ld_unit_zero zero2 inb_S512x256_S512x256_0_0 _)) (View.ld_unit_zero zero2 inb_S256x256_S256x256_0_0 _)) (View.ld_unit_zero zero2 inb_S1x256_S1x256_0_0 _)) (View.ld_unit_zero zero2 inb_S1x256_S1x256_0_0 _))) (View.ld_unit_zero zero2 inb_S1x256_S1x256_0_0 _)) (View.ld_unit_zero zero2 inb_S256x256_S256x256_0_0 _)) (View.ld_unit_zero zero2 inb_S1x256_S1x256_0_0 _)
  isplitl [H10]
  · iexists _; isplitr
    swap; · iexact H10
    ipureintro
    refine (View.read_writes_eq_canon _ _ _ fun y => ⟨_, List.mem_singleton_self _, View.mem_set_unit_zero zero2 inb_S512x256_S512x256_0_0 y⟩).trans ?_
    refine (View.canon_unit_zero zero2 inb_S512x256_S512x256_0_0 _).trans ?_
    exact congr (congr (congr (congrArg k1_pay2 (congr (congr (congr (congr (congr (congrArg k1_pay4 (View.ld_unit_zero zero2 inb_S512x256_S512x256_0_0 _)) (View.ld_unit_zero zero2 inb_S512x1_S512x1_0_0 _)) (View.ld_unit_zero zero2 inb_S512x256_S512x256_0_0 _)) (View.ld_unit_zero zero2 inb_S256x256_S256x256_0_0 _)) (View.ld_unit_zero zero2 inb_S1x256_S1x256_0_0 _)) (View.ld_unit_zero zero2 inb_S1x256_S1x256_0_0 _))) (View.ld_unit_zero zero2 inb_S1x256_S1x256_0_0 _)) (View.ld_unit_zero zero2 inb_S256x256_S256x256_0_0 _)) (View.ld_unit_zero zero2 inb_S1x256_S1x256_0_0 _)
  iexists _; isplitr
  swap; · iexact H11
  ipureintro
  refine (View.read_writes_eq_canon _ _ _ fun y => ⟨_, List.mem_singleton_self _, View.mem_set_unit_zero zero2 inb_S512x256_S512x256_0_0 y⟩).trans ?_
  refine (View.canon_unit_zero zero2 inb_S512x256_S512x256_0_0 _).trans ?_
  exact congr (congr (congr (congrArg k1_pay3 (congr (congr (congr (congr (congr (congrArg k1_pay4 (View.ld_unit_zero zero2 inb_S512x256_S512x256_0_0 _)) (View.ld_unit_zero zero2 inb_S512x1_S512x1_0_0 _)) (View.ld_unit_zero zero2 inb_S512x256_S512x256_0_0 _)) (View.ld_unit_zero zero2 inb_S256x256_S256x256_0_0 _)) (View.ld_unit_zero zero2 inb_S1x256_S1x256_0_0 _)) (View.ld_unit_zero zero2 inb_S1x256_S1x256_0_0 _))) (View.ld_unit_zero zero2 inb_S1x256_S1x256_0_0 _)) (View.ld_unit_zero zero2 inb_S256x256_S256x256_0_0 _)) (View.ld_unit_zero zero2 inb_S1x256_S1x256_0_0 _)

/-- The proof data of region 1: the arrays as entered; after the body at `t` every input buffer still at its block and
    every output buffer at what the body computes from them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay4 (iblk1 V c 0 t) (iblk1 V c 1 t) (iblk1 V c 2 t) (iblk1 V c 3 t) (iblk1 V c 4 t) (iblk1 V c 5 t)) (iblk1 V c 6 t) (iblk1 V c 7 t) (iblk1 V c 8 t)
    | ⟨10, _⟩ => k1_pay2 (k1_pay4 (iblk1 V c 0 t) (iblk1 V c 1 t) (iblk1 V c 2 t) (iblk1 V c 3 t) (iblk1 V c 4 t) (iblk1 V c 5 t)) (iblk1 V c 6 t) (iblk1 V c 7 t) (iblk1 V c 8 t)
    | ⟨11, _⟩ => k1_pay3 (k1_pay4 (iblk1 V c 0 t) (iblk1 V c 1 t) (iblk1 V c 2 t) (iblk1 V c 3 t) (iblk1 V c 4 t) (iblk1 V c 5 t)) (iblk1 V c 6 t) (iblk1 V c 7 t) (iblk1 V c 8 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]
/-- Input window 0's buffer after the body. -/
theorem after1_0 (c : Dev nD) (t : Fin cfg1.N) : (dat1 V c).after 0 t = iblk1 V c 0 t := by dsimp only [dat1]
/-- Input window 1's buffer after the body. -/
theorem after1_1 (c : Dev nD) (t : Fin cfg1.N) : (dat1 V c).after 1 t = iblk1 V c 1 t := by dsimp only [dat1]
/-- Input window 2's buffer after the body. -/
theorem after1_2 (c : Dev nD) (t : Fin cfg1.N) : (dat1 V c).after 2 t = iblk1 V c 2 t := by dsimp only [dat1]
/-- Input window 3's buffer after the body. -/
theorem after1_3 (c : Dev nD) (t : Fin cfg1.N) : (dat1 V c).after 3 t = iblk1 V c 3 t := by dsimp only [dat1]
/-- Input window 4's buffer after the body. -/
theorem after1_4 (c : Dev nD) (t : Fin cfg1.N) : (dat1 V c).after 4 t = iblk1 V c 4 t := by dsimp only [dat1]
/-- Input window 5's buffer after the body. -/
theorem after1_5 (c : Dev nD) (t : Fin cfg1.N) : (dat1 V c).after 5 t = iblk1 V c 5 t := by dsimp only [dat1]
/-- Input window 6's buffer after the body. -/
theorem after1_6 (c : Dev nD) (t : Fin cfg1.N) : (dat1 V c).after 6 t = iblk1 V c 6 t := by dsimp only [dat1]
/-- Input window 7's buffer after the body. -/
theorem after1_7 (c : Dev nD) (t : Fin cfg1.N) : (dat1 V c).after 7 t = iblk1 V c 7 t := by dsimp only [dat1]
/-- Input window 8's buffer after the body. -/
theorem after1_8 (c : Dev nD) (t : Fin cfg1.N) : (dat1 V c).after 8 t = iblk1 V c 8 t := by dsimp only [dat1]
/-- Output window 9's buffer after the body. -/
theorem after1_9 (c : Dev nD) (t : Fin cfg1.N) : (dat1 V c).after 9 t = k1_pay1 (k1_pay4 (iblk1 V c 0 t) (iblk1 V c 1 t) (iblk1 V c 2 t) (iblk1 V c 3 t) (iblk1 V c 4 t) (iblk1 V c 5 t)) (iblk1 V c 6 t) (iblk1 V c 7 t) (iblk1 V c 8 t) := by dsimp only [dat1]
/-- Output window 10's buffer after the body. -/
theorem after1_10 (c : Dev nD) (t : Fin cfg1.N) : (dat1 V c).after 10 t = k1_pay2 (k1_pay4 (iblk1 V c 0 t) (iblk1 V c 1 t) (iblk1 V c 2 t) (iblk1 V c 3 t) (iblk1 V c 4 t) (iblk1 V c 5 t)) (iblk1 V c 6 t) (iblk1 V c 7 t) (iblk1 V c 8 t) := by dsimp only [dat1]
/-- Output window 11's buffer after the body. -/
theorem after1_11 (c : Dev nD) (t : Fin cfg1.N) : (dat1 V c).after 11 t = k1_pay3 (k1_pay4 (iblk1 V c 0 t) (iblk1 V c 1 t) (iblk1 V c 2 t) (iblk1 V c 3 t) (iblk1 V c 4 t) (iblk1 V c 5 t)) (iblk1 V c 6 t) (iblk1 V c 7 t) (iblk1 V c 8 t) := by dsimp only [dat1]
/-- Input window 0's buffer before the body. -/
theorem before1_0 (c : Dev nD) (t : Fin cfg1.N) (d) : (dat1 V c).before 0 t d = iblk1 V c 0 t :=
  before1_0_of V (dat1 V c) (A_eq1 V c 0) (after1_0 V c) t d
/-- Input window 1's buffer before the body. -/
theorem before1_1 (c : Dev nD) (t : Fin cfg1.N) (d) : (dat1 V c).before 1 t d = iblk1 V c 1 t :=
  before1_1_of V (dat1 V c) (A_eq1 V c 1) (after1_1 V c) t d
/-- Input window 2's buffer before the body. -/
theorem before1_2 (c : Dev nD) (t : Fin cfg1.N) (d) : (dat1 V c).before 2 t d = iblk1 V c 2 t :=
  before1_2_of V (dat1 V c) (A_eq1 V c 2) (after1_2 V c) t d
/-- Input window 3's buffer before the body. -/
theorem before1_3 (c : Dev nD) (t : Fin cfg1.N) (d) : (dat1 V c).before 3 t d = iblk1 V c 3 t :=
  before1_3_of V (dat1 V c) (A_eq1 V c 3) (after1_3 V c) t d
/-- Input window 4's buffer before the body. -/
theorem before1_4 (c : Dev nD) (t : Fin cfg1.N) (d) : (dat1 V c).before 4 t d = iblk1 V c 4 t :=
  before1_4_of V (dat1 V c) (A_eq1 V c 4) (after1_4 V c) t d
/-- Input window 5's buffer before the body. -/
theorem before1_5 (c : Dev nD) (t : Fin cfg1.N) (d) : (dat1 V c).before 5 t d = iblk1 V c 5 t :=
  before1_5_of V (dat1 V c) (A_eq1 V c 5) (after1_5 V c) t d
/-- Input window 6's buffer before the body. -/
theorem before1_6 (c : Dev nD) (t : Fin cfg1.N) (d) : (dat1 V c).before 6 t d = iblk1 V c 6 t :=
  before1_6_of V (dat1 V c) (A_eq1 V c 6) (after1_6 V c) t d
/-- Input window 7's buffer before the body. -/
theorem before1_7 (c : Dev nD) (t : Fin cfg1.N) (d) : (dat1 V c).before 7 t d = iblk1 V c 7 t :=
  before1_7_of V (dat1 V c) (A_eq1 V c 7) (after1_7 V c) t d
/-- Input window 8's buffer before the body. -/
theorem before1_8 (c : Dev nD) (t : Fin cfg1.N) (d) : (dat1 V c).before 8 t d = iblk1 V c 8 t :=
  before1_8_of V (dat1 V c) (A_eq1 V c 8) (after1_8 V c) t d

/-- What the body is entered with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- What the body returns at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (run1 c Set.univ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's entry at point `t` is the body at that point's buffers. -/
theorem defs₀_row1 (t : Fin cfg1.N) :
    defs₀ (F := F) .tc cfg1.body (cfg1.bodyArgs t (cfg1.slots t)) = bodyAt1 t := by
  unfold defs₀; rw [Defs.onTc_tc]

/-- The body meets the pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Own

end
-- ==== Proof.KernelIdeal.Region2.lean ====
/- Region 2 of the ideal kernel: every row gets its group's row added. -/
module

public import proofs.«01_k».proof.Proof.KernelIdeal.Region0

@[expose] public section

-- rectangles of the blocks' extents are looked into once per coordinate
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffer contents when the region is entered
variable (V : (c : Dev nD) → (b : Ref sig .tc) → Buf (Elt F) ((c : Thread nD τ).loc b))

/-- Window `w`'s block at grid point `t`, read from the array as it stands when the region is entered. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, for any proof data that starts from the
    entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, for any proof data that starts from the
    entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, for any proof data that starts from the
    entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, for any proof data that starts from the
    entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body leaves its inputs as they are and stores its results, computed from the inputs. -/
theorem run2 (c : Dev nD) (E : Set ℕ) (i : grid2.Coords) (arg1 : Memref sig .tc .vmem S1x1x2000 .i32) (harg1 : arg1.IsWhole) (arg2 : Memref sig .tc .vmem S2000x256 .f32) (harg2 : arg2.IsWhole) (arg3 : Memref sig .tc .vmem S512x256 .bf16) (harg3 : arg3.IsWhole) (arg4 : Memref sig .tc .vmem S512x256 .bf16) (harg4 : arg4.IsWhole) (arg5 : Memref sig .tc .vmem S2000x256 .f32) (harg5 : arg5.IsWhole)
    (x0 : Vec F S1x1x2000 .i32) (x1 : Vec F S2000x256 .f32) (x2 : Vec F S512x256 .bf16) (x3 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k2_pay1 x0 x2 x3 x1)) -∗ K ⟨⟩))
      ⊢ wp frame (wpE (defs₀ (F := F)) Variants.none c none) E (cc2__phase_c_body i arg1 harg1 arg2 harg2 arg3 harg3 arg4 harg4 arg5 harg5) K := by
  simp only [cc2__phase_c_body_eq_skeleton]; unfold cc2__phase_c_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ fun y => ⟨_, List.mem_singleton_self _, View.mem_set_unit_zero zero2 inb_S2000x256_S2000x256_0_0 y⟩).trans ?_
  refine (View.canon_unit_zero zero2 inb_S2000x256_S2000x256_0_0 _).trans ?_
  exact congr (congr (congr (congrArg k2_pay1 (View.ld_unit_zero zero3 inb_S1x1x2000_S1x1x2000_0_0_0 _)) (View.ld_unit_zero zero2 inb_S512x256_S512x256_0_0 _)) (View.ld_unit_zero zero2 inb_S512x256_S512x256_0_0 _)) (View.ld_unit_zero zero2 inb_S2000x256_S2000x256_0_0 _)

/-- The proof data of region 2: the arrays as entered; after the body at `t` every input buffer still at its block and
    every output buffer at what the body computes from them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 2 t) (iblk2 V c 3 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]
/-- Input window 0's buffer after the body. -/
theorem after2_0 (c : Dev nD) (t : Fin cfg2.N) : (dat2 V c).after 0 t = iblk2 V c 0 t := by dsimp only [dat2]
/-- Input window 1's buffer after the body. -/
theorem after2_1 (c : Dev nD) (t : Fin cfg2.N) : (dat2 V c).after 1 t = iblk2 V c 1 t := by dsimp only [dat2]
/-- Input window 2's buffer after the body. -/
theorem after2_2 (c : Dev nD) (t : Fin cfg2.N) : (dat2 V c).after 2 t = iblk2 V c 2 t := by dsimp only [dat2]
/-- Input window 3's buffer after the body. -/
theorem after2_3 (c : Dev nD) (t : Fin cfg2.N) : (dat2 V c).after 3 t = iblk2 V c 3 t := by dsimp only [dat2]
/-- Output window 4's buffer after the body. -/
theorem after2_4 (c : Dev nD) (t : Fin cfg2.N) : (dat2 V c).after 4 t = k2_pay1 (iblk2 V c 0 t) (iblk2 V c 2 t) (iblk2 V c 3 t) (iblk2 V c 1 t) := by dsimp only [dat2]
/-- Input window 0's buffer before the body. -/
theorem before2_0 (c : Dev nD) (t : Fin cfg2.N) (d) : (dat2 V c).before 0 t d = iblk2 V c 0 t :=
  before2_0_of V (dat2 V c) (A_eq2 V c 0) (after2_0 V c) t d
/-- Input window 1's buffer before the body. -/
theorem before2_1 (c : Dev nD) (t : Fin cfg2.N) (d) : (dat2 V c).before 1 t d = iblk2 V c 1 t :=
  before2_1_of V (dat2 V c) (A_eq2 V c 1) (after2_1 V c) t d
/-- Input window 2's buffer before the body. -/
theorem before2_2 (c : Dev nD) (t : Fin cfg2.N) (d) : (dat2 V c).before 2 t d = iblk2 V c 2 t :=
  before2_2_of V (dat2 V c) (A_eq2 V c 2) (after2_2 V c) t d
/-- Input window 3's buffer before the body. -/
theorem before2_3 (c : Dev nD) (t : Fin cfg2.N) (d) : (dat2 V c).before 3 t d = iblk2 V c 3 t :=
  before2_3_of V (dat2 V c) (A_eq2 V c 3) (after2_3 V c) t d

/-- What the body is entered with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (run2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's entry at point `t` is the body at that point's buffers. -/
theorem defs₀_row2 (t : Fin cfg2.N) :
    defs₀ (F := F) .tc cfg2.body (cfg2.bodyArgs t (cfg2.slots t)) = bodyAt2 t := by
  unfold defs₀; rw [Defs.onTc_tc]

/-- The body meets the pipeline's obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Region

end Cert.KernelIdeal.Own

end
-- ==== Proof.KernelIdeal.Run.lean ====
/- The whole run of the ideal kernel: what every buffer holds at the end. -/
module

public import proofs.«01_k».proof.Proof.KernelIdeal.Region1
public import proofs.«01_k».proof.Proof.KernelIdeal.Region2

@[expose] public section

-- rectangles of the blocks' extents are looked into once per coordinate
set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays @main is given. -/
abbrev argRefs : List (Ref sig .tc) := [main_arg0, main_arg1, main_arg2, main_arg3, main_arg4, main_arg5, main_arg6, main_arg7, main_arg8, main_arg9]

/-- The first host stretch allocates nothing. -/
theorem hostOps0_fresh : (hostOps0 : List (HloOp τ sig (Elt F))).Forall fun op => op.fresh = ∅ := by
  simp only [List.Forall]; repeat' constructor
/-- What the first host stretch writes. -/
abbrev hostOps0_W : List (Ref sig .tc) := [main_v0]
/-- It writes nothing else. -/
theorem hostOps0_writes : (hostOps0 : List (HloOp τ sig (Elt F))).Forall fun op => op.writes ⊆ (hostOps0_W.map (Proc.devRef (τ := τ) .tc)).toFinset :=
  StableHlo.forall_writes_sub_of_map rfl
/-- It writes no argument. -/
theorem hostOps0_args : ∀ a ∈ argRefs, a ∉ hostOps0_W := ListAll.forall_mem_of_all_decide (by decide +kernel)

/-- The second host stretch allocates nothing. -/
theorem hostOps1_fresh : (hostOps1 : List (HloOp τ sig (Elt F))).Forall fun op => op.fresh = ∅ := by
  simp only [List.Forall]; repeat' constructor
/-- What the second host stretch writes. -/
abbrev hostOps1_W : List (Ref sig .tc) := [main_v2, main_v3, main_v4, main_v5]
/-- It writes nothing else. -/
theorem hostOps1_writes : (hostOps1 : List (HloOp τ sig (Elt F))).Forall fun op => op.writes ⊆ (hostOps1_W.map (Proc.devRef (τ := τ) .tc)).toFinset :=
  StableHlo.forall_writes_sub_of_map rfl
/-- It writes no argument. -/
theorem hostOps1_args : ∀ a ∈ argRefs, a ∉ hostOps1_W := ListAll.forall_mem_of_all_decide (by decide +kernel)

/-- The buffers at launch. -/
abbrev W0 : Dev nD → Valuation τ sig (Elt F) := fun c b => (s₀ m ρ).mem ((c : Dev nD), b)
/-- Every argument is still as launched. -/
theorem W0_args (c : Dev nD) : ∀ a ∈ argRefs, W0 m ρ c (Proc.devRef .tc a) = m ((c : Thread nD τ).loc a) := fun _ _ => rfl
/-- The buffers when region 0 is entered. -/
abbrev W1 : Dev nD → Valuation τ sig (Elt F) := fun c => StableHlo.after hostOps0 (W0 m ρ c)
/-- A buffer the host stretch does not write is unchanged. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- Every argument is still as launched. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same contents at the core's references. -/
abbrev V1 : (c : Dev nD) → (b : Ref sig .tc) → Buf (Elt F) ((c : Thread nD τ).loc b) := fun c b => W1 m ρ c b
/-- The buffers when region 0 is left. -/
def W2 (c : Dev nD) : Valuation τ sig (Elt F) :=
  Pipeline.withArrays spec0 c (W1 m ρ c) fun w => (dat0 (V1 m ρ) c).arrAt w cfg0.N
/-- After region 0 each of its arrays holds what the region leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Region 0 leaves every other buffer alone. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0 changes only its output arrays. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- No argument is an output array of region 0. -/
theorem argsIn0 : ∀ a ∈ argRefs, ∀ w : Fin cfg0.W, Pipeline.arrRef spec0 w = a → (cfg0.win w).isOut = false :=
  ListAll.forall_mem_of_all_decide (by decide +kernel)
/-- Every argument is still as launched. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same contents at the core's references. -/
abbrev V2 : (c : Dev nD) → (b : Ref sig .tc) → Buf (Elt F) ((c : Thread nD τ).loc b) := fun c b => W2 m ρ c b
/-- Region 0's arrays at its exit. -/
theorem hF0 (c : Dev nD) (w : Fin cfg0.W) : (dat0 (V1 m ρ) c).arrAt w cfg0.N = V2 m ρ c (Pipeline.arrRef spec0 w) :=
  (W2_arr m ρ c w).symm
/-- Every other buffer at region 0's exit. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers when region 1 is entered. -/
abbrev W3 : Dev nD → Valuation τ sig (Elt F) := fun c => StableHlo.after hostOps1 (W2 m ρ c)
/-- A buffer the host stretch does not write is unchanged. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- Every argument is still as launched. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same contents at the core's references. -/
abbrev V3 : (c : Dev nD) → (b : Ref sig .tc) → Buf (Elt F) ((c : Thread nD τ).loc b) := fun c b => W3 m ρ c b
/-- The buffers when region 1 is left and region 2 entered. -/
def W4 (c : Dev nD) : Valuation τ sig (Elt F) :=
  Pipeline.withArrays spec1 c (W3 m ρ c) fun w => (dat1 (V3 m ρ) c).arrAt w cfg1.N
/-- After region 1 each of its arrays holds what the region leaves there. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- Region 1 leaves every other buffer alone. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1 changes only its output arrays. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- No argument is an output array of region 1. -/
theorem argsIn1 : ∀ a ∈ argRefs, ∀ w : Fin cfg1.W, Pipeline.arrRef spec1 w = a → (cfg1.win w).isOut = false :=
  ListAll.forall_mem_of_all_decide (by decide +kernel)
/-- Every argument is still as launched. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same contents at the core's references. -/
abbrev V4 : (c : Dev nD) → (b : Ref sig .tc) → Buf (Elt F) ((c : Thread nD τ).loc b) := fun c b => W4 m ρ c b
/-- Region 1's arrays at its exit. -/
theorem hF1 (c : Dev nD) (w : Fin cfg1.W) : (dat1 (V3 m ρ) c).arrAt w cfg1.N = V4 m ρ c (Pipeline.arrRef spec1 w) :=
  (W4_arr m ρ c w).symm
/-- Every other buffer at region 1's exit. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers at the end. -/
def W5 (c : Dev nD) : Valuation τ sig (Elt F) :=
  Pipeline.withArrays spec2 c (W4 m ρ c) fun w => (dat2 (V4 m ρ) c).arrAt w cfg2.N
/-- After region 2 each of its arrays holds what the region leaves there. -/
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
/-- Region 2 leaves every other buffer alone. -/
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- Region 2 changes only its output arrays. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- No argument is an output array of region 2. -/
theorem argsIn2 : ∀ a ∈ argRefs, ∀ w : Fin cfg2.W, Pipeline.arrRef spec2 w = a → (cfg2.win w).isOut = false :=
  ListAll.forall_mem_of_all_decide (by decide +kernel)
/-- Every argument is still as launched. -/
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same contents at the core's references. -/
abbrev V5 : (c : Dev nD) → (b : Ref sig .tc) → Buf (Elt F) ((c : Thread nD τ).loc b) := fun c b => W5 m ρ c b
/-- Region 2's arrays at its exit. -/
theorem hF2 (c : Dev nD) (w : Fin cfg2.W) : (dat2 (V4 m ρ) c).arrAt w cfg2.N = V5 m ρ c (Pipeline.arrRef spec2 w) :=
  (W5_arr m ρ c w).symm
/-- Every other buffer at region 2's exit. -/
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- No pipeline has a prefetched table. -/
abbrev adm : (p : Fin 3) → (pcfgs (F := F) p).Adm := fun p => (cfgs p).toPCfg_adm
/-- Every region's proof data, at the contents it is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
/-- No loop variants. -/
abbrev 𝒱₀ : Variants := Variants.none
/-- No level is assigned. -/
abbrev L : GSem nD τ sig → Finset Unit := fun _ => ∅
/-- No level is assigned. -/
abbrev lv : GSem nD τ sig → Unit → ℕ := fun _ _ => 0
/-- What rides beside the buffers: the generator register and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- Region 0 as a segment: its arrays split out of the held buffers and put back at its exit. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: its arrays split out of the held buffers and put back at its exit. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: its arrays split out of the held buffers and put back at its exit. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main as its five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- @main is the run of its segments. -/
theorem main_run (c : Dev nD) : main (F := F) c = Pipeline.Seg.run (segs m ρ) := (main_chain c).trans (by chain_rfl)

/-- Every semaphore is scoped. -/
theorem no_unscoped : ∀ sm : SemLoc sig, sm.isScoped .tc = true := by decide

set_option backward.isDefEq.respectTransparency.types false in
/-- From any memory with zero counters every fair run of @main ends, nothing faulting, with every buffer at `W5` and
    every semaphore at zero. -/
theorem run_main : θ_run defs (onTc (τ := τ) (main (F := F))) ⟨m, fun _ => 0, ρ⟩ (fun r => (∀ c : Dev nD, ∀ b ∈ Pipeline.ucRefs τ sig,
      r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Every fair run of @main ends with the arguments as launched and every semaphore at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c _ (mem_uc main_arg0 (by decide))).trans (W5_args m ρ c main_arg0 (by decide)),
       (h.1 c _ (mem_uc main_arg1 (by decide))).trans (W5_args m ρ c main_arg1 (by decide)),
       (h.1 c _ (mem_uc main_arg2 (by decide))).trans (W5_args m ρ c main_arg2 (by decide)),
       (h.1 c _ (mem_uc main_arg3 (by decide))).trans (W5_args m ρ c main_arg3 (by decide)),
       (h.1 c _ (mem_uc main_arg4 (by decide))).trans (W5_args m ρ c main_arg4 (by decide)),
       (h.1 c _ (mem_uc main_arg5 (by decide))).trans (W5_args m ρ c main_arg5 (by decide)),
       (h.1 c _ (mem_uc main_arg6 (by decide))).trans (W5_args m ρ c main_arg6 (by decide)),
       (h.1 c _ (mem_uc main_arg7 (by decide))).trans (W5_args m ρ c main_arg7 (by decide)),
       (h.1 c _ (mem_uc main_arg8 (by decide))).trans (W5_args m ρ c main_arg8 (by decide)),
       (h.1 c _ (mem_uc main_arg9 (by decide))).trans (W5_args m ρ c main_arg9 (by decide))⟩, h.2⟩) (run_main m ρ)

end Cert.KernelIdeal.Own

end
-- ==== Proof.Math.lean ====
/- Extended-real arithmetic behind the two networks: which sums and products stay finite, and why a normalised row
   does not depend on what its infinite entries are. -/
module

public import Idealize.ShloMosaic.PureOps.Ideal
public import Mathlib.Data.EReal.Inv

@[expose] public section

noncomputable section

namespace Cert.Own.Math

open Idealize.ShloMosaic

/-- The value is a real number. -/
def IsReal (a : EReal) : Prop := a ≠ ⊥ ∧ a ≠ ⊤

theorem fin_coe (r : ℝ) : IsReal (r : EReal) := ⟨EReal.coe_ne_bot r, EReal.coe_ne_top r⟩

theorem fin_zero : IsReal 0 := fin_coe 0

/-- A value that is a real number is the image of one. -/
theorem exists_of_fin {a : EReal} (h : IsReal a) : ∃ r : ℝ, a = r := ⟨a.toReal, (EReal.coe_toReal h.2 h.1).symm⟩

/-- A sum is a real number exactly when both terms are. -/
theorem fin_add (a b : EReal) : IsReal (a + b) ↔ IsReal a ∧ IsReal b := by
  induction a <;> induction b <;> simp [IsReal, ← EReal.coe_add]

/-- A difference is a real number exactly when both terms are. -/
theorem fin_sub (a b : EReal) : IsReal (a - b) ↔ IsReal a ∧ IsReal b := by
  induction a <;> induction b <;> simp [IsReal, ← EReal.coe_sub]

/-- A finite sum is a real number exactly when every term is. -/
theorem fin_sum {ι : Type*} (s : Finset ι) (f : ι → EReal) : IsReal (∑ i ∈ s, f i) ↔ ∀ i ∈ s, IsReal (f i) := by
  classical
  induction s using Finset.induction_on with
  | empty => simp [fin_zero]
  | insert a s ha ih => simp [Finset.sum_insert ha, fin_add, ih]

/-- A product of real numbers is one. -/
theorem fin_mul {a b : EReal} (ha : IsReal a) (hb : IsReal b) : IsReal (a * b) := by
  obtain ⟨x, rfl⟩ := exists_of_fin ha
  obtain ⟨y, rfl⟩ := exists_of_fin hb
  rw [← EReal.coe_mul]; exact fin_coe _

/-- An infinite value times anything but zero is infinite. -/
theorem not_fin_mul {a b : EReal} (ha : ¬ IsReal a) (hb : b ≠ 0) : ¬ IsReal (a * b) := by
  have h : a = ⊥ ∨ a = ⊤ := by simpa [IsReal, ← or_iff_not_imp_left] using ha
  rcases h with rfl | rfl <;> rcases lt_or_gt_of_ne hb with hb | hb <;>
    simp [IsReal, EReal.bot_mul_of_neg, EReal.bot_mul_of_pos, EReal.top_mul_of_neg, EReal.top_mul_of_pos, hb]

/-- The square of an infinite value is `⊤`. -/
theorem mul_self_of_not_fin {a : EReal} (ha : ¬ IsReal a) : a * a = ⊤ := by
  have h : a = ⊥ ∨ a = ⊤ := by simpa [IsReal, ← or_iff_not_imp_left] using ha
  rcases h with rfl | rfl <;> simp

/-- A maximum with a real number is a real number when the other value is. -/
theorem fin_max {a b : EReal} (ha : IsReal a) (hb : IsReal b) : IsReal (max a b) := by
  rcases max_choice a b with h | h <;> rw [h] <;> assumption

/-- Equal, or both infinite (of whatever signs). -/
def Same (a b : EReal) : Prop := a = b ∨ (¬ IsReal a ∧ ¬ IsReal b)

theorem Same.refl (a : EReal) : Same a a := Or.inl rfl

theorem Same.fin_iff {a b : EReal} (h : Same a b) : IsReal a ↔ IsReal b := by
  rcases h with rfl | ⟨ha, hb⟩
  · rfl
  · exact iff_of_false ha hb

theorem Same.eq {a b : EReal} (h : Same a b) (hb : IsReal b) : a = b := h.resolve_right fun h => h.2 hb

theorem Same.add_right {a b : EReal} (h : Same a b) (c : EReal) : Same (a + c) (b + c) := by
  rcases h with rfl | ⟨ha, hb⟩
  · exact .refl _
  · exact Or.inr ⟨fun h => ha ((fin_add _ _).1 h).1, fun h => hb ((fin_add _ _).1 h).1⟩

theorem Same.mul_right {a b : EReal} (h : Same a b) (c : EReal) : Same (a * c) (b * c) := by
  rcases h with rfl | ⟨ha, hb⟩
  · exact .refl _
  · by_cases hc : c = 0
    · subst hc; simp [Same]
    · exact Or.inr ⟨not_fin_mul ha hc, not_fin_mul hb hc⟩

theorem Same.sum {ι : Type*} (s : Finset ι) {f g : ι → EReal} (h : ∀ i ∈ s, Same (f i) (g i)) :
    Same (∑ i ∈ s, f i) (∑ i ∈ s, g i) := by
  by_cases hf : ∀ i ∈ s, IsReal (g i)
  · exact Or.inl (Finset.sum_congr rfl fun i hi => (h i hi).eq (hf i hi))
  · refine Or.inr ⟨fun hs => hf fun i hi => ?_, fun hs => hf ((fin_sum _ _).1 hs)⟩
    exact (h i hi).fin_iff.1 ((fin_sum _ _).1 hs i hi)

/-- Division by a value that is not zero multiplies by its inverse. -/
theorem div_eq {a b : EReal} (hb : b ≠ 0) : Ideal.div a b = a * b⁻¹ := by simp [Ideal.div, hb]

/-- Values equal up to infinite ones stay so when both are divided by the same nonzero value. -/
theorem Same.div_right {a b : EReal} (h : Same a b) {c : EReal} (hc : c ≠ 0) : Same (Ideal.div a c) (Ideal.div b c) := by
  rw [div_eq hc, div_eq hc]; exact h.mul_right _

/-- Adding to each term its difference with itself changes a sum only when a term is infinite, and then the sum is
    infinite either way. -/
theorem same_split {ι : Type*} (s : Finset ι) (f : ι → EReal) :
    Same (∑ i ∈ s, f i + ∑ i ∈ s, (f i - f i)) (∑ i ∈ s, f i) := by
  by_cases h : ∀ i ∈ s, IsReal (f i)
  · left
    rw [Finset.sum_eq_zero (s := s) (f := fun i => f i - f i), add_zero]
    intro i hi
    exact EReal.sub_self (h i hi).2 (h i hi).1
  · exact Or.inr ⟨fun hs => h ((fin_sum _ _).1 ((fin_add _ _).1 hs).1), fun hs => h ((fin_sum _ _).1 hs)⟩

/-- A real number plus its difference with itself is the number. -/
theorem add_sub_self {a : EReal} (h : IsReal a) : a + (a - a) = a := by
  rw [EReal.sub_self h.2 h.1, add_zero]

/-! ### A normalised row -/

section Row

variable {n : ℕ}

/-- The mean of a row of `n` entries, divided by the value `c` (the number of entries as the program writes it). -/
def mean (c : EReal) (f : Fin n → EReal) : EReal := Ideal.div (∑ k, f k) c

/-- The mean squared distance of a row's entries from their mean. -/
def variance (c : EReal) (f : Fin n → EReal) : EReal := Ideal.div (∑ k, (f k - mean c f) * (f k - mean c f)) c

/-- The row's entry `j` normalised by MULTIPLYING with the reciprocal square root of the variance plus `e`. -/
def normMul (c e : EReal) (f : Fin n → EReal) (j : Fin n) : EReal := (f j - mean c f) * Ideal.rsqrt (variance c f + e)

/-- The row's entry `j` normalised by DIVIDING by the square root of the variance plus `e`. -/
def normDiv (c e : EReal) (f : Fin n → EReal) (j : Fin n) : EReal := Ideal.div (f j - mean c f) (Ideal.sqrt (variance c f + e))

variable {c e : ℝ}

theorem inv_ne_zero (hc : 0 < c) : ((c : EReal))⁻¹ ≠ 0 := by
  rw [← EReal.coe_inv]; exact_mod_cast (inv_pos.2 hc).ne'

/-- Dividing by a positive real number keeps real numbers real and infinite values infinite. -/
theorem fin_div (hc : 0 < c) (a : EReal) : IsReal (Ideal.div a c) ↔ IsReal a := by
  have h0 : (c : EReal) ≠ 0 := by exact_mod_cast hc.ne'
  rw [div_eq h0]
  refine ⟨fun h => by_contra fun ha => not_fin_mul ha (inv_ne_zero hc) h, fun h => fin_mul h ?_⟩
  rw [← EReal.coe_inv]; exact fin_coe _

/-- A row of real numbers has a real variance that is not negative. -/
theorem variance_real (hc : 0 < c) {f : Fin n → EReal} (hf : ∀ k, IsReal (f k)) :
    ∃ v : ℝ, 0 ≤ v ∧ variance c f = v := by
  have hm : IsReal (mean (c : EReal) f) := (fin_div hc _).2 ((fin_sum _ _).2 fun k _ => hf k)
  have hd : ∀ k, IsReal (f k - mean (c : EReal) f) := fun k => (fin_sub _ _).2 ⟨hf k, hm⟩
  have hs : ∀ k, 0 ≤ (f k - mean (c : EReal) f) * (f k - mean (c : EReal) f) := fun k => by
    obtain ⟨x, hx⟩ := exists_of_fin (hd k)
    rw [hx, ← EReal.coe_mul]; exact_mod_cast mul_self_nonneg x
  have hv : IsReal (variance (c : EReal) f) := (fin_div hc _).2 ((fin_sum _ _).2 fun k _ => fin_mul (hd k) (hd k))
  have h0 : (c : EReal) ≠ 0 := by exact_mod_cast hc.ne'
  have hp : 0 ≤ variance (c : EReal) f := by
    rw [variance, div_eq h0]
    refine mul_nonneg (Finset.sum_nonneg fun k _ => hs k) ?_
    rw [← EReal.coe_inv]; exact_mod_cast (inv_pos.2 hc).le
  obtain ⟨v, hv⟩ := exists_of_fin hv
  exact ⟨v, by rw [hv] at hp; exact_mod_cast hp, hv⟩

/-- A row with an infinite entry: every distance from the mean is infinite and the variance is `⊤`. -/
theorem variance_top (hc : 0 < c) {f : Fin n → EReal} (hf : ¬ ∀ k, IsReal (f k)) :
    (∀ k, ¬ IsReal (f k - mean c f)) ∧ variance c f = ⊤ := by
  have hm : ¬ IsReal (mean (c : EReal) f) := fun h => hf fun k => (fin_sum _ _).1 ((fin_div hc _).1 h) k (Finset.mem_univ k)
  have hd : ∀ k, ¬ IsReal (f k - mean (c : EReal) f) := fun k h => hm ((fin_sub _ _).1 h).2
  refine ⟨hd, ?_⟩
  have h0 : (c : EReal) ≠ 0 := by exact_mod_cast hc.ne'
  obtain ⟨k₀, _⟩ := not_forall.1 hf
  have hsum : ∀ s : Finset (Fin n), s.Nonempty → ∑ _k ∈ s, (⊤ : EReal) = ⊤ := fun s hs => by
    induction hs using Finset.Nonempty.cons_induction with
    | singleton a => simp
    | cons a s h hs ih => rw [Finset.sum_cons, ih]; rfl
  rw [variance, div_eq h0, Finset.sum_congr rfl fun k _ => mul_self_of_not_fin (hd k), hsum _ ⟨k₀, Finset.mem_univ _⟩]
  refine EReal.top_mul_of_pos ?_
  rw [← EReal.coe_inv]; exact_mod_cast inv_pos.2 hc

/-- The two ways of normalising agree on rows that are equal up to what their infinite entries are. -/
theorem normMul_eq_normDiv (hc : 0 < c) (he : 0 < e) {f g : Fin n → EReal} (h : ∀ k, Same (f k) (g k)) (j : Fin n) :
    normMul c e f j = normDiv c e g j := by
  by_cases hg : ∀ k, IsReal (g k)
  · obtain rfl : f = g := funext fun k => (h k).eq (hg k)
    obtain ⟨v, hv0, hv⟩ := variance_real hc hg
    have hpos : 0 < v + e := by positivity
    have hs : (Real.sqrt (v + e) : EReal) ≠ 0 := by exact_mod_cast (Real.sqrt_pos.2 hpos).ne'
    rw [normMul, normDiv, hv, ← EReal.coe_add, Ideal.rsqrt_coe, Ideal.sqrt_coe, if_neg hpos.not_gt, if_neg hpos.ne',
      if_neg hpos.not_gt, div_eq hs, EReal.coe_inv]
  · have hf : ¬ ∀ k, IsReal (f k) := fun hf => hg fun k => (h k).fin_iff.1 (hf k)
    rw [normMul, normDiv, (variance_top hc hf).2, (variance_top hc hg).2, EReal.top_add_coe, Ideal.rsqrt_top, Ideal.sqrt_top,
      div_eq EReal.top_ne_zero, EReal.inv_top, mul_zero, mul_zero]

/-- A normalised entry is a real number, whatever the row. -/
theorem fin_normDiv (hc : 0 < c) (he : 0 < e) (g : Fin n → EReal) (j : Fin n) : IsReal (normDiv c e g j) := by
  by_cases hg : ∀ k, IsReal (g k)
  · obtain ⟨v, hv0, hv⟩ := variance_real hc hg
    have hpos : 0 < v + e := by positivity
    have hm : IsReal (mean (c : EReal) g) := (fin_div hc _).2 ((fin_sum _ _).2 fun k _ => hg k)
    rw [normDiv, hv, ← EReal.coe_add, Ideal.sqrt_coe, if_neg hpos.not_gt]
    exact (fin_div (Real.sqrt_pos.2 hpos) _).2 ((fin_sub _ _).2 ⟨hg j, hm⟩)
  · rw [normDiv, (variance_top hc hg).2, EReal.top_add_coe, Ideal.sqrt_top, div_eq EReal.top_ne_zero, EReal.inv_top, mul_zero]
    exact fin_zero

end Row

/-! ### The two constants of the normalisation -/

/-- The row length 256 as the programs write it. -/
theorem ofBits_256 : Ideal.ofBits .f32 1132462080#32 = ((256 : ℝ) : EReal) := by
  simp [Ideal.ofBits, Ideal.ieee]
  rw [← EReal.coe_mul, EReal.coe_eq_coe_iff]
  norm_num

/-- The value added to the variance, as the programs write it, is a positive real number. -/
theorem ofBits_eps : ∃ e : ℝ, 0 < e ∧ Ideal.ofBits .f32 925353388#32 = (e : EReal) := by
  refine ⟨10995116 * 2 ^ (-40 : ℤ), by positivity, ?_⟩
  simp [Ideal.ofBits, Ideal.ieee]

/-! ### The network on one row -/

/-- Entry `k` of the first layer: the row sums divided by the count (at least one), plus the row `v`, times the weights
    `w` plus the bias `b`. -/
def first {n : ℕ} (s : Fin n → EReal) (c : EReal) (v : Fin n → EReal) (w : Fin n → Fin n → EReal) (b : Fin n → EReal) (k : Fin n) : EReal :=
  ∑ d, (Ideal.div (s d) (max c 1) + v d) * w k d + b k

/-- One entry of the second layer: the normalised row `x` scaled by `γ`, shifted by `β`, negative entries put to zero,
    times the weights `w` plus the bias `b`. -/
def second {n : ℕ} (x γ β w : Fin n → EReal) (b : EReal) : EReal := ∑ k, max (x k * γ k + β k) 0 * w k + b

/-- The first layer of two rows that are equal up to what their infinite entries are is equal up to the same. -/
theorem same_first {n : ℕ} {s s' : Fin n → EReal} (h : ∀ d, Same (s d) (s' d)) (c : EReal) (v : Fin n → EReal)
    (w : Fin n → Fin n → EReal) (b : Fin n → EReal) (k : Fin n) : Same (first s c v w b k) (first s' c v w b k) := by
  have hc : max c 1 ≠ 0 := (lt_of_lt_of_le zero_lt_one (le_max_right c 1)).ne'
  exact (Same.sum _ fun d _ => (((h d).div_right hc).add_right _).mul_right _).add_right _

/-- The second layer of a row of real numbers is a real number when its parameters are. -/
theorem fin_second {n : ℕ} {x γ β w : Fin n → EReal} {b : EReal} (hx : ∀ k, IsReal (x k)) (hγ : ∀ k, IsReal (γ k))
    (hβ : ∀ k, IsReal (β k)) (hw : ∀ k, IsReal (w k)) (hb : IsReal b) : IsReal (second x γ β w b) :=
  (fin_add _ _).2 ⟨(fin_sum _ _).2 fun k _ => fin_mul (fin_max ((fin_add _ _).2 ⟨fin_mul (hx k) (hγ k), hβ k⟩) fin_zero) (hw k), hb⟩

end Cert.Own.Math
-- ==== Proof.Condition.lean ====
/- What the precondition says of the arguments. -/
module

public import proofs.«01_k».proof.Pre_rows_named_and_finite
public import proofs.«01_k».proof.Proof.Math
public import Idealize.ShloMosaic.Lib.ReduceAll
public import Idealize.ShloMosaic.Lib.WordArith
public import Idealize.ShloMosaic.Lib.StableHlo.Predicate
public import Idealize.ShloMosaic.Lib.Pointwise

@[expose] public section

-- indices of the arrays' extents are looked into once per coordinate
set_option maxRecDepth 16384

noncomputable section

namespace Cert.Pre_rows_named_and_finite.Own

open Cert.Pre_rows_named_and_finite Cert.Own.Math
open Idealize.ShloMosaic Idealize.SL.Sem

/-- The side conditions the predicate states. -/
instance facts : Facts where
  bcast_S_S50000 := by decide
  reducesTo_S50000_S_d0 := by decide
  h_S_ := by decide
  bcast_S_S256 := by decide
  reducesTo_S256_S_d0 := by decide
  bcast_S_S256x256 := by decide
  reducesTo_S256x256_S_d0_1 := by decide

open Facts

instance : Subsingleton S_.Idx := ⟨fun a b => funext fun i => i.elim0⟩

/-- A conjunction of bits is one only when both are. -/
theorem andi_one {a b : BitVec 1} (h : IntOp.andi a b = 1#1) : a = 1#1 ∧ b = 1#1 := by
  revert a b; decide

/-- The float constant of the comparisons is infinity. -/
theorem ofBits_inf : Ideal.ofBits .f32 0x7F800000#32 = (⊤ : EReal) := by
  simp [Ideal.ofBits, Ideal.ieee]

/-- A value whose absolute value is below infinity is real. -/
theorem real_of_abs {x : EReal} (h : Ideal.cmp .olt (max x (-x)) (Ideal.ofBits .f32 0x7F800000#32) = 1#1) : IsReal x := by
  rw [ofBits_inf] at h
  have h' : max x (-x) < ⊤ := of_decide_eq_true ((StableHlo.Predicate.ofBool_eq_one_iff _).1 h)
  obtain ⟨h1, h2⟩ := max_lt_iff.1 h'
  refine ⟨fun hx => ?_, h1.ne⟩
  rw [hx] at h2
  exact absurd h2 (by simp)

/-- A vector all of whose absolute values are below infinity has real entries. -/
theorem real_of_all₁ (x : FVec Ideal S256 .f32) (j : S_.Idx)
    (h : Host.reduce IntOp.andi (cmpf .olt (Host.absf x) (broadcastInDim S256 ![] bcast_S_S256 (constant S_ .f32 0x7F800000#32)))
      (constantI S_ 1 1#1) reducesTo_S256_S_d0 h_S_ j = 1#1) (k : Fin 256) : IsReal (x (ix1 k)) :=
  real_of_abs (Host.reduce_andi_all _ _ _ _ _ h (ix1 k))

/-- The same of a matrix. -/
theorem real_of_all₂ (x : FVec Ideal S256x256 .f32) (j : S_.Idx)
    (h : Host.reduce IntOp.andi (cmpf .olt (Host.absf x) (broadcastInDim S256x256 ![] bcast_S_S256x256 (constant S_ .f32 0x7F800000#32)))
      (constantI S_ 1 1#1) reducesTo_S256x256_S_d0_1 h_S_ j = 1#1) (k d : Fin 256) : IsReal (x (ix2 k d)) :=
  real_of_abs (Host.reduce_andi_all _ _ _ _ _ h (ix2 k d))

/-- A vector of words all of which lie in [0, 512) names a group at every row. -/
theorem named_of_all (b : IVec S50000 32) (j : S_.Idx)
    (h : Host.reduce IntOp.andi (andi (cmpi .sge b (broadcastInDim S50000 ![] bcast_S_S50000 (constantI S_ 32 0#32)))
      (cmpi .slt b (broadcastInDim S50000 ![] bcast_S_S50000 (constantI S_ 32 512#32))))
      (constantI S_ 1 1#1) reducesTo_S50000_S_d0 h_S_ j = 1#1) (r : Fin 50000) :
    ∃ g : Fin 512, b (ix1 r) = BitVec.ofNat 32 g.val := by
  obtain ⟨h0, h1⟩ := andi_one (Host.reduce_andi_all _ _ _ _ _ h (ix1 r))
  have h0' : BitVec.sle 0#32 (b (ix1 r)) = true := (StableHlo.Predicate.ofBool_eq_one_iff _).1 h0
  have h1' : BitVec.slt (b (ix1 r)) (BitVec.ofNat 32 512) = true := (StableHlo.Predicate.ofBool_eq_one_iff _).1 h1
  have hlt := WordArith.toNat_lt_of_zero_sle_of_slt_ofNat _ 512 (by norm_num) h0' h1'
  exact ⟨⟨_, hlt⟩, by simp⟩

/-- The precondition: every row names a group; gamma, beta, the second layer's weights and its bias are real. -/
theorem decode (h : FVec Ideal S50000x256 .f32) (b : IVec S50000 32) (v : FVec Ideal S512x256 .f32) (w₁ : FVec Ideal S256x256 .f32)
    (b₁ γ β : FVec Ideal S256 .f32) (w₂ : FVec Ideal S256x256 .f32) (b₂ : FVec Ideal S256 .f32) (n : IVec S_ 32)
    (e : fn (F := Ideal) h b v w₁ b₁ γ β w₂ b₂ n = fun _ => 1#1) :
    (∀ r : Fin 50000, ∃ g : Fin 512, b (ix1 r) = BitVec.ofNat 32 g.val) ∧ (∀ k : Fin 256, IsReal (γ (ix1 k)))
      ∧ (∀ k : Fin 256, IsReal (β (ix1 k))) ∧ (∀ k d : Fin 256, IsReal (w₂ (ix2 k d))) ∧ ∀ k : Fin 256, IsReal (b₂ (ix1 k)) := by
  have e0 := congrFun e (Shape.Idx.first h_S_)
  obtain ⟨e1, hb⟩ := andi_one e0
  obtain ⟨e2, hw⟩ := andi_one e1
  obtain ⟨e3, hβ⟩ := andi_one e2
  obtain ⟨hn, hγ⟩ := andi_one e3
  exact ⟨named_of_all b _ hn, real_of_all₁ γ _ hγ, real_of_all₁ β _ hβ, real_of_all₂ w₂ _ hw, real_of_all₁ b₂ _ hb⟩

end Cert.Pre_rows_named_and_finite.Own
-- ==== Proof.KernelIdeal.Payloads.lean ====
/- What the bodies of the three regions compute, element by element over the extended reals. -/
module

public import proofs.«01_k».proof.Proof.Gen.KernelIdeal.Skeleton
public import proofs.«01_k».proof.Proof.Math
public import Idealize.ShloMosaic.Lib.Pipeline.ValueKit

@[expose] public section

-- indices of the blocks' extents are looked into once per coordinate
set_option maxRecDepth 16384

noncomputable section

namespace Cert.KernelIdeal.Own

open Cert.KernelIdeal Cert.KernelIdeal.Gen Cert.Own.Math
open Idealize.ShloMosaic Idealize.ShloMosaic.TcCoe

/-- One where the word names row `g`, zero elsewhere. -/
def hit (b : BitVec 32) (g : ℕ) : EReal := if b = BitVec.ofNat 32 g then 1 else 0

/-- The kernel's comparison bit, widened and converted to a float, is `hit`. -/
theorem hit_eq (b : BitVec 32) (g : ℕ) :
    FloatOps.sitofp (F := Ideal) FTy.f32 (BitVec.setWidth 32 (IntOp.cmpi CmpIPredicate.eq (BitVec.ofNat 32 g) b)) = hit b g := by
  unfold hit
  change (((BitVec.setWidth 32 (IntOp.cmpi CmpIPredicate.eq (BitVec.ofNat 32 g) b)).toInt : ℝ) : EReal) = _
  by_cases h : b = BitVec.ofNat 32 g
  · subst h; simp [IntOp.cmpi]
  · have h' : (BitVec.ofNat 32 g == b) = false := beq_eq_false_iff_ne.2 (Ne.symm h)
    simp [IntOp.cmpi, h, h']

/-- A block's part of the group sums: the hits' rows, and the hits' rows less themselves. -/
theorem pay2_apply (b : Vec Ideal S1x1x2000 .i32) (h : Vec Ideal S2000x256 .f32) (j : S512x256.Idx) :
    k0_pay2 b h j = ∑ x : Fin 2000, hit (b (ix3 0 0 x)) (j 0).val * (h (ix2 x (j 1)) : EReal)
      + ∑ x : Fin 2000, hit (b (ix3 0 0 x)) (j 0).val * ((h (ix2 x (j 1)) : EReal) - (h (ix2 x (j 1)) : EReal)) := by
  pointwise [k0_pay2, k0_pay1]
  simp only [hit_eq]

/-- A block's part of the group counts. -/
theorem pay3_apply (b : Vec Ideal S1x1x2000 .i32) (j : S512x1.Idx) :
    k0_pay3 (F := Ideal) b j = ∑ x : Fin 2000, hit (b (ix3 0 0 x)) (j 0).val := by
  pointwise [k0_pay3, k0_pay1]
  simp only [hit_eq]

/-- A later block adds its part to the sums so far. -/
theorem pay4_apply (b : Vec Ideal S1x1x2000 .i32) (h : Vec Ideal S2000x256 .f32) (s : Vec Ideal S512x256 .f32) (j : S512x256.Idx) :
    k0_pay4 b h s j = (s j : EReal) + k0_pay2 b h j := by
  pointwise [k0_pay4]

/-- A later block adds its part to the counts so far. -/
theorem pay5_apply (b : Vec Ideal S1x1x2000 .i32) (s : Vec Ideal S512x1 .f32) (j : S512x1.Idx) :
    k0_pay5 b s j = (s j : EReal) + k0_pay3 (F := Ideal) b j := by
  pointwise [k0_pay5]

/-- The network on the whole arrays: row `j 0` through the first layer, normalised by the reciprocal square root, and
    the second layer. -/
theorem net_apply (s : Vec Ideal S512x256 .f32) (n : Vec Ideal S512x1 .f32) (v : Vec Ideal S512x256 .f32)
    (w₁ : Vec Ideal S256x256 .f32) (b₁ γ β : Vec Ideal S1x256 .f32) (w₂ : Vec Ideal S256x256 .f32) (b₂ : Vec Ideal S1x256 .f32)
    (j : S512x256.Idx) :
    k1_pay1 (k1_pay4 s n v w₁ b₁ γ) β w₂ b₂ j
      = second (normMul (Ideal.ofBits .f32 1132462080#32) (Ideal.ofBits .f32 925353388#32)
          (first (fun d => s (ix2 (j 0) d)) (n (ix2 (j 0) 0)) (fun d => v (ix2 (j 0) d)) (fun k d => w₁ (ix2 k d)) (fun k => b₁ (ix2 0 k))))
          (fun k => γ (ix2 0 k)) (fun k => β (ix2 0 k)) (fun k => w₂ (ix2 (j 1) k)) (b₂ (ix2 0 (j 1))) := by
  pointwise [k1_pay4, k1_pay1]
  rfl

/-- The first of the two halves the last region reads is the network's value. -/
theorem hi_apply (v : Vec Ideal S512x256 .f32) (β : Vec Ideal S1x256 .f32) (w₂ : Vec Ideal S256x256 .f32) (b₂ : Vec Ideal S1x256 .f32)
    (j : S512x256.Idx) : k1_pay2 v β w₂ b₂ j = k1_pay1 v β w₂ b₂ j := by
  pointwise [k1_pay2]

/-- The second half is the network's value less itself. -/
theorem lo_apply (v : Vec Ideal S512x256 .f32) (β : Vec Ideal S1x256 .f32) (w₂ : Vec Ideal S256x256 .f32) (b₂ : Vec Ideal S1x256 .f32)
    (j : S512x256.Idx) : k1_pay3 v β w₂ b₂ j = (k1_pay1 v β w₂ b₂ j : EReal) - k1_pay1 v β w₂ b₂ j := by
  pointwise [k1_pay3, k1_pay2]

/-- The last region's block: the input rows plus the hits' rows of the two halves. -/
theorem out_apply (b : Vec Ideal S1x1x2000 .i32) (hi lo : Vec Ideal S512x256 .bf16) (h : Vec Ideal S2000x256 .f32) (j : S2000x256.Idx) :
    k2_pay1 b hi lo h j = (h j : EReal) + (∑ g : Fin 512, hit (b (ix3 0 0 (j 0))) g.val * (hi (ix2 g (j 1)) : EReal)
      + ∑ g : Fin 512, hit (b (ix3 0 0 (j 0))) g.val * (lo (ix2 g (j 1)) : EReal)) := by
  pointwise [k2_pay1]
  simp only [hit_eq]

end Cert.KernelIdeal.Own
-- ==== Proof.KernelIdeal.Arrays.lean ====
/- The arrays the three regions leave, element by element. -/
module

public import proofs.«01_k».proof.Proof.KernelIdeal.Run
public import proofs.«01_k».proof.Proof.KernelIdeal.Payloads

@[expose] public section

-- indices of the arrays' extents are looked into once per coordinate
set_option maxRecDepth 16384

noncomputable section

namespace Cert.KernelIdeal.Own

open Cert.KernelIdeal Cert.KernelIdeal.Gen Cert.Own.Math
open Idealize.ShloMosaic Idealize.ShloMosaic.TcCoe Idealize.ShloMosaic.Tactic Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![t.val, 0, 0] ∧ win0_1.index t = ![t.val, 0] ∧ win0_2.index t = ![0, 0]
    ∧ win0_3.index t = ![0, 0] ∧ t.val < 25 :=
  (by decide +kernel : ∀ t : Fin grid0.N, _)

/-- The block of group numbers at point `t`. -/
theorem blk0_0 (t : Fin cfg0.N) (x : Fin 2000) :
    iblk0 V c 0 t (ix3 0 0 x) = V c main_v0 (ix3 ⟨t.val, (idx0 t).2.2.2.2⟩ 0 x) := by
  blk_ext [iblk0, idx0 t]

/-- The block of rows at point `t`. -/
theorem blk0_1 (t : Fin cfg0.N) (x : Fin 2000) (d : Fin 256) :
    iblk0 V c 1 t (ix2 x d) = V c main_arg0 (ix2 ⟨t.val * 2000 + x.val, by have := (idx0 t).2.2.2.2; omega⟩ d) := by
  blk_ext [iblk0, idx0 t]

/-- The sums after point `n` are the parts of the points up to it. -/
theorem acc0_sums (n : ℕ) (hn : n < cfg0.N) (j : S512x256.Idx) :
    ((acc0 V c n hn).1 j : EReal)
      = ∑ p : Fin (n + 1), (k0_pay2 (iblk0 V c 0 ⟨p.val, lt_of_lt_of_le p.isLt hn⟩) (iblk0 V c 1 ⟨p.val, lt_of_lt_of_le p.isLt hn⟩) j : EReal) := by
  induction n with
  | zero => rw [Fin.sum_univ_one]; rfl
  | succ n ih =>
    rw [Fin.sum_univ_castSucc]
    refine (pay4_apply _ _ _ j).trans ?_
    rw [ih (Nat.lt_of_succ_lt hn)]
    rfl

/-- The counts after point `n` are the parts of the points up to it. -/
theorem acc0_counts (n : ℕ) (hn : n < cfg0.N) (j : S512x1.Idx) :
    ((acc0 V c n hn).2 j : EReal)
      = ∑ p : Fin (n + 1), (k0_pay3 (F := Ideal) (iblk0 V c 0 ⟨p.val, lt_of_lt_of_le p.isLt hn⟩) j : EReal) := by
  induction n with
  | zero => rw [Fin.sum_univ_one]; rfl
  | succ n ih =>
    rw [Fin.sum_univ_castSucc]
    refine (pay5_apply _ _ j).trans ?_
    rw [ih (Nat.lt_of_succ_lt hn)]
    rfl

/-- What region 0 leaves in the array of sums: over all blocks, the hits' rows and the hits' rows less themselves. -/
def sumsOf (B : S25x1x2000.Idx → BitVec 32) (H : S50000x256.Idx → EReal) (j : S512x256.Idx) : EReal :=
  ∑ p : Fin 25, (∑ x : Fin 2000, hit (B (ix3 p 0 x)) (j 0).val * H (ix2 ⟨p.val * 2000 + x.val, by omega⟩ (j 1))
    + ∑ x : Fin 2000, hit (B (ix3 p 0 x)) (j 0).val * (H (ix2 ⟨p.val * 2000 + x.val, by omega⟩ (j 1)) - H (ix2 ⟨p.val * 2000 + x.val, by omega⟩ (j 1))))

/-- What region 0 leaves in the array of counts: over all blocks, the number of hits. -/
def countsOf (B : S25x1x2000.Idx → BitVec 32) (j : S512x1.Idx) : EReal :=
  ∑ p : Fin 25, ∑ x : Fin 2000, hit (B (ix3 p 0 x)) (j 0).val

/-- After the last point the sums are those of all blocks. -/
theorem last_sums (n : ℕ) (hn : n < cfg0.N) (h : n = 24) (j : S512x256.Idx) :
    ((acc0 V c n hn).1 j : EReal) = sumsOf (V c main_v0) (V c main_arg0) j := by
  subst h
  refine (acc0_sums V c 24 hn j).trans (Finset.sum_congr rfl fun p _ => ?_)
  refine (pay2_apply _ _ j).trans ?_
  refine congrArg₂ (fun a b : EReal => a + b) (Finset.sum_congr rfl fun x _ => ?_) (Finset.sum_congr rfl fun x _ => ?_)
  · exact congrArg₂ (fun (b : BitVec 32) (e : EReal) => hit b (j 0).val * e) (blk0_0 V c _ x) (blk0_1 V c _ x (j 1))
  · exact congrArg₂ (fun (b : BitVec 32) (e : EReal) => hit b (j 0).val * (e - e)) (blk0_0 V c _ x) (blk0_1 V c _ x (j 1))

/-- After the last point the counts are those of all blocks. -/
theorem last_counts (n : ℕ) (hn : n < cfg0.N) (h : n = 24) (j : S512x1.Idx) :
    ((acc0 V c n hn).2 j : EReal) = countsOf (V c main_v0) j := by
  subst h
  refine (acc0_counts V c 24 hn j).trans (Finset.sum_congr rfl fun p _ => ?_)
  refine (pay3_apply _ j).trans (Finset.sum_congr rfl fun x _ => ?_)
  rw [blk0_0]

/-- The array of sums after region 0. -/
theorem arr0_2 : (dat0 V c).arrAt 2 cfg0.N = sumsOf (V c main_v0) (V c main_arg0) := by
  refine (dat0 V c).arrAt_eq_of_covers 2 _ (by decide +kernel) fun t hf y => ?_
  have ht : t.val = 24 := by have := (flush0_2 t).1 hf; have := (idx0 t).2.2.2.2; omega
  blk_simp
  rw [after0_2]
  refine (last_sums V c t.val t.isLt ht _).trans (congrArg (sumsOf (V c main_v0) (V c main_arg0)) ?_)
  blk_ext [idx0 t]

/-- The array of counts after region 0. -/
theorem arr0_3 : (dat0 V c).arrAt 3 cfg0.N = countsOf (V c main_v0) := by
  refine (dat0 V c).arrAt_eq_of_covers 3 _ (by decide +kernel) fun t hf y => ?_
  have ht : t.val = 24 := by have := (flush0_3 t).1 hf; have := (idx0 t).2.2.2.2; omega
  blk_simp
  rw [after0_3]
  refine (last_counts V c t.val t.isLt ht _).trans (congrArg (countsOf (V c main_v0)) ?_)
  blk_ext [idx0 t]

theorem idx1 : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] :=
  (by decide +kernel : ∀ t : Fin grid1.N, _)

/-- What region 1 leaves in the array it returns: the network of the arrays it reads. -/
abbrev netOf : Vec Ideal S512x256 .f32 :=
  k1_pay1 (k1_pay4 (V c main_v1_0) (V c main_v1_1) (V c main_arg2) (V c main_arg3) (V c main_v2) (V c main_v3)) (V c main_v4)
    (V c main_arg7) (V c main_v5)

/-- The block of window 0 of region 1 is its whole array. -/
theorem blk1_0 (t : Fin cfg1.N) : iblk1 V c 0 t = V c main_v1_0 := by
  have e : win1_0.index t = ![0, 0] := (idx1 t).1
  refine funext fun (i : S512x256.Idx) => ?_
  blk_ext [iblk1, e]

/-- The block of window 1 of region 1 is its whole array. -/
theorem blk1_1 (t : Fin cfg1.N) : iblk1 V c 1 t = V c main_v1_1 := by
  have e : win1_1.index t = ![0, 0] := (idx1 t).2.1
  refine funext fun (i : S512x1.Idx) => ?_
  blk_ext [iblk1, e]

/-- The block of window 2 of region 1 is its whole array. -/
theorem blk1_2 (t : Fin cfg1.N) : iblk1 V c 2 t = V c main_arg2 := by
  have e : win1_2.index t = ![0, 0] := (idx1 t).2.2.1
  refine funext fun (i : S512x256.Idx) => ?_
  blk_ext [iblk1, e]

/-- The block of window 3 of region 1 is its whole array. -/
theorem blk1_3 (t : Fin cfg1.N) : iblk1 V c 3 t = V c main_arg3 := by
  have e : win1_3.index t = ![0, 0] := (idx1 t).2.2.2.1
  refine funext fun (i : S256x256.Idx) => ?_
  blk_ext [iblk1, e]

/-- The block of window 4 of region 1 is its whole array. -/
theorem blk1_4 (t : Fin cfg1.N) : iblk1 V c 4 t = V c main_v2 := by
  have e : win1_4.index t = ![0, 0] := (idx1 t).2.2.2.2.1
  refine funext fun (i : S1x256.Idx) => ?_
  blk_ext [iblk1, e]

/-- The block of window 5 of region 1 is its whole array. -/
theorem blk1_5 (t : Fin cfg1.N) : iblk1 V c 5 t = V c main_v3 := by
  have e : win1_5.index t = ![0, 0] := (idx1 t).2.2.2.2.2.1
  refine funext fun (i : S1x256.Idx) => ?_
  blk_ext [iblk1, e]

/-- The block of window 6 of region 1 is its whole array. -/
theorem blk1_6 (t : Fin cfg1.N) : iblk1 V c 6 t = V c main_v4 := by
  have e : win1_6.index t = ![0, 0] := (idx1 t).2.2.2.2.2.2.1
  refine funext fun (i : S1x256.Idx) => ?_
  blk_ext [iblk1, e]

/-- The block of window 7 of region 1 is its whole array. -/
theorem blk1_7 (t : Fin cfg1.N) : iblk1 V c 7 t = V c main_arg7 := by
  have e : win1_7.index t = ![0, 0] := (idx1 t).2.2.2.2.2.2.2.1
  refine funext fun (i : S256x256.Idx) => ?_
  blk_ext [iblk1, e]

/-- The block of window 8 of region 1 is its whole array. -/
theorem blk1_8 (t : Fin cfg1.N) : iblk1 V c 8 t = V c main_v5 := by
  have e : win1_8.index t = ![0, 0] := (idx1 t).2.2.2.2.2.2.2.2.1
  refine funext fun (i : S1x256.Idx) => ?_
  blk_ext [iblk1, e]

/-- The network's array of region 1 is read off whole blocks. -/
theorem net_blk1 (t : Fin cfg1.N) :
    k1_pay1 (k1_pay4 (iblk1 V c 0 t) (iblk1 V c 1 t) (iblk1 V c 2 t) (iblk1 V c 3 t) (iblk1 V c 4 t) (iblk1 V c 5 t)) (iblk1 V c 6 t)
      (iblk1 V c 7 t) (iblk1 V c 8 t) = netOf V c := by
  rw [blk1_0, blk1_1, blk1_2, blk1_3, blk1_4, blk1_5, blk1_6, blk1_7, blk1_8]

/-- The network's array after region 1. -/
theorem arr1_9 : (dat1 V c).arrAt 9 cfg1.N = netOf V c := by
  refine (dat1 V c).arrAt_eq_of_covers 9 _ (by decide +kernel) fun t hf y => ?_
  blk_simp
  rw [after1_9, net_blk1]
  refine congrArg (netOf V c) ?_
  blk_ext [idx1 t]

/-- The first half's array after region 1 is the network's. -/
theorem arr1_10 (j : S512x256.Idx) : ((dat1 V c).arrAt 10 cfg1.N j : EReal) = netOf V c j := by
  refine congrFun ((dat1 V c).arrAt_eq_of_covers 10 (fun j => (netOf V c j : EReal)) (by decide +kernel) fun t hf y => ?_) j
  blk_simp
  rw [after1_10]
  refine ((hi_apply _ _ _ _ y).trans (congrFun (net_blk1 V c t) y)).trans (congrArg (netOf V c) ?_)
  blk_ext [idx1 t]

/-- The second half's array after region 1 is the network's less itself. -/
theorem arr1_11 (j : S512x256.Idx) : ((dat1 V c).arrAt 11 cfg1.N j : EReal) = (netOf V c j : EReal) - netOf V c j := by
  refine congrFun ((dat1 V c).arrAt_eq_of_covers 11 (fun j => (netOf V c j : EReal) - (netOf V c j : EReal)) (by decide +kernel) fun t hf y => ?_) j
  blk_simp
  rw [after1_11]
  refine ((lo_apply _ _ _ _ y).trans (congrArg (fun e : EReal => e - e) (congrFun (net_blk1 V c t) y))).trans (congrArg (fun i => (netOf V c i : EReal) - (netOf V c i : EReal)) ?_)
  blk_ext [idx1 t]

theorem idx2 : ∀ t : Fin cfg2.N, win2_0.index t = ![t.val, 0, 0] ∧ win2_1.index t = ![t.val, 0] ∧ win2_2.index t = ![0, 0]
    ∧ win2_3.index t = ![0, 0] ∧ win2_4.index t = ![t.val, 0] ∧ t.val < 25 :=
  (by decide +kernel : ∀ t : Fin grid2.N, _)

/-- What region 2 leaves: every row of `H` plus the hits' rows of the two halves. -/
def outOf (B : S25x1x2000.Idx → BitVec 32) (H : S50000x256.Idx → EReal) (hi lo : S512x256.Idx → EReal) (j : S50000x256.Idx) : EReal :=
  H j + (∑ g : Fin 512, hit (B (ix3 ⟨(j 0).val / 2000, by have : (j 0).val < 50000 := (j 0).isLt; omega⟩ 0 ⟨(j 0).val % 2000, by omega⟩)) g.val * hi (ix2 g (j 1))
    + ∑ g : Fin 512, hit (B (ix3 ⟨(j 0).val / 2000, by have : (j 0).val < 50000 := (j 0).isLt; omega⟩ 0 ⟨(j 0).val % 2000, by omega⟩)) g.val * lo (ix2 g (j 1)))

/-- The result array after region 2. -/
theorem arr2_4 : (dat2 V c).arrAt 4 cfg2.N = outOf (V c main_v0) (V c main_arg0) (V c main_v6_1) (V c main_v6_2) := by
  refine (dat2 V c).arrAt_eq_of_covers 4 _ (by decide +kernel) fun t hf y => ?_
  blk_simp
  rw [after2_4]
  refine (out_apply _ _ _ _ y).trans ?_
  unfold outOf
  blk_point [iblk2, idx2 t]

end Cert.KernelIdeal.Own
-- ==== Proof.KernelIdeal.Entries.lean ====
/- What the kernel's runs end with, in terms of the arguments. -/
module

public import proofs.«01_k».proof.Proof.KernelIdeal.Arrays

@[expose] public section

-- indices of the arrays' extents are looked into once per coordinate
set_option maxRecDepth 16384

noncomputable section

namespace Cert.KernelIdeal.Own

open Cert.KernelIdeal Cert.KernelIdeal.Gen Cert.Own.Math
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

/-- The group numbers as the regions read them: block after block. -/
theorem W1_v0 (p : Fin 25) (x : Fin 2000) :
    W1 m ρ c (Proc.devRef .tc main_v0) (ix3 p 0 x) = m ((c : Thread nD τ).loc main_arg1) (ix1 ⟨p.val * 2000 + x.val, by omega⟩) := by
  have e : W1 m ρ c (Proc.devRef .tc main_v0) = shapeCast S25x1x2000 (m ((c : Thread nD τ).loc main_arg1)) shapeCasts_S50000_S25x1x2000 := by
    rfl
  rw [e]
  pointwise

/-- Entry `d` of row `r` of the first argument. -/
abbrev entry (r : Fin 50000) (d : Fin 256) : EReal := m ((c : Thread nD τ).loc main_arg0) (ix2 r d)

/-- A group's rows. -/
abbrev rows (g : Fin 512) : Finset (Fin 50000) := {r | m ((c : Thread nD τ).loc main_arg1) (ix1 r) = BitVec.ofNat 32 g.val}

/-- `b1` as a row. -/
theorem W3_v2 (k : Fin 256) : W3 m ρ c (Proc.devRef .tc main_v2) (ix2 0 k) = m ((c : Thread nD τ).loc main_arg4) (ix1 k) := by
  have e : W3 m ρ c (Proc.devRef .tc main_v2) = shapeCast S1x256 (W2 m ρ c (Proc.devRef .tc main_arg4)) shapeCasts_S256_S1x256 := by
    rfl
  rw [e, W2_args m ρ c main_arg4 (by decide)]
  pointwise

/-- `gamma` as a row. -/
theorem W3_v3 (k : Fin 256) : W3 m ρ c (Proc.devRef .tc main_v3) (ix2 0 k) = m ((c : Thread nD τ).loc main_arg5) (ix1 k) := by
  have e : W3 m ρ c (Proc.devRef .tc main_v3) = shapeCast S1x256 (W2 m ρ c (Proc.devRef .tc main_arg5)) shapeCasts_S256_S1x256 := by
    rfl
  rw [e, W2_args m ρ c main_arg5 (by decide)]
  pointwise

/-- `beta` as a row. -/
theorem W3_v4 (k : Fin 256) : W3 m ρ c (Proc.devRef .tc main_v4) (ix2 0 k) = m ((c : Thread nD τ).loc main_arg6) (ix1 k) := by
  have e : W3 m ρ c (Proc.devRef .tc main_v4) = shapeCast S1x256 (W2 m ρ c (Proc.devRef .tc main_arg6)) shapeCasts_S256_S1x256 := by
    rfl
  rw [e, W2_args m ρ c main_arg6 (by decide)]
  pointwise

/-- `b2` as a row. -/
theorem W3_v5 (k : Fin 256) : W3 m ρ c (Proc.devRef .tc main_v5) (ix2 0 k) = m ((c : Thread nD τ).loc main_arg8) (ix1 k) := by
  have e : W3 m ρ c (Proc.devRef .tc main_v5) = shapeCast S1x256 (W2 m ρ c (Proc.devRef .tc main_arg8)) shapeCasts_S256_S1x256 := by
    rfl
  rw [e, W2_args m ρ c main_arg8 (by decide)]
  pointwise

/-- A sum over the blocks' rows is the sum over all rows. -/
theorem sum_blocks (f : Fin 50000 → EReal) :
    ∑ p : Fin 25, ∑ x : Fin 2000, f ⟨p.val * 2000 + x.val, by omega⟩ = ∑ r, f r := by
  rw [← Fintype.sum_prod_type']
  refine Fintype.sum_equiv (finProdFinEquiv.trans (finCongr (by norm_num : 25 * 2000 = 50000))) _ _ fun q => congrArg f ?_
  refine Fin.ext ?_
  simp [finProdFinEquiv]
  omega

/-- A sum weighted by hits is the sum over the rows hit. -/
theorem sum_hits {ι : Type} [Fintype ι] (b : ι → BitVec 32) (g : ℕ) (f : ι → EReal) :
    ∑ r, hit (b r) g * f r = ∑ r with b r = BitVec.ofNat 32 g, f r := by
  rw [Finset.sum_filter]
  refine Finset.sum_congr rfl fun r _ => ?_
  unfold hit
  split
  · exact one_mul _
  · exact zero_mul _

/-- The sums region 1 reads: a group's rows added up, and their differences with themselves. -/
theorem W3_sums (g : Fin 512) (d : Fin 256) : (W3 m ρ c (Proc.devRef .tc main_v1_0) (ix2 g d) : EReal)
    = ∑ r ∈ rows m c g, entry m c r d
      + ∑ r ∈ rows m c g, (entry m c r d - entry m c r d) := by
  have e : W3 m ρ c (Proc.devRef .tc main_v1_0) = sumsOf (W1 m ρ c (Proc.devRef .tc main_v0)) (m ((c : Thread nD τ).loc main_arg0)) :=
    ((W3_of m ρ c main_v1_0 (by decide)).trans ((W2_arr m ρ c 2).trans (arr0_2 (V1 m ρ) c))).trans
      (congrArg (sumsOf (W1 m ρ c (Proc.devRef .tc main_v0))) (W1_args m ρ c main_arg0 (by decide)))
  refine (congrFun e (ix2 g d)).trans ?_
  refine (Finset.sum_congr rfl fun p _ => congrArg₂ (fun a b : EReal => a + b)
    (Finset.sum_congr rfl fun x _ => congrArg (fun b : BitVec 32 => hit b g.val * entry m c ⟨p.val * 2000 + x.val, by omega⟩ d) (W1_v0 m ρ c p x))
    (Finset.sum_congr rfl fun x _ => congrArg (fun b : BitVec 32 => hit b g.val * (entry m c ⟨p.val * 2000 + x.val, by omega⟩ d
      - entry m c ⟨p.val * 2000 + x.val, by omega⟩ d)) (W1_v0 m ρ c p x))).trans ?_
  refine Finset.sum_add_distrib.trans (congrArg₂ (fun a b : EReal => a + b) ?_ ?_)
  · exact (sum_blocks fun r => hit (m ((c : Thread nD τ).loc main_arg1) (ix1 r)) g.val * entry m c r d).trans
      (sum_hits _ _ _)
  · exact (sum_blocks fun r => hit (m ((c : Thread nD τ).loc main_arg1) (ix1 r)) g.val * (entry m c r d
      - entry m c r d)).trans (sum_hits _ _ _)

/-- The counts region 1 reads: the number of a group's rows. -/
theorem W3_counts (g : Fin 512) : (W3 m ρ c (Proc.devRef .tc main_v1_1) (ix2 g 0) : EReal) = ∑ r ∈ rows m c g, (1 : EReal) := by
  have e : W3 m ρ c (Proc.devRef .tc main_v1_1) = countsOf (W1 m ρ c (Proc.devRef .tc main_v0)) :=
    (W3_of m ρ c main_v1_1 (by decide)).trans ((W2_arr m ρ c 3).trans (arr0_3 (V1 m ρ) c))
  refine (congrFun e (ix2 g 0)).trans ?_
  refine (Finset.sum_congr rfl fun p _ => Finset.sum_congr rfl fun x _ =>
    (congrArg (fun b : BitVec 32 => hit b g.val) (W1_v0 m ρ c p x)).trans (mul_one _).symm).trans ?_
  exact (sum_blocks fun r => hit (m ((c : Thread nD τ).loc main_arg1) (ix1 r)) g.val * 1).trans (sum_hits _ _ _)

/-- The network's value at group `g`, column `k`, from the arguments: the mean of the group's rows plus the group's own
    row, the first layer, the normalisation by division, the second layer. -/
def value (g : Fin 512) (k : Fin 256) : EReal :=
  second (normDiv (Ideal.ofBits .f32 1132462080#32) (Ideal.ofBits .f32 925353388#32)
      (first (fun d => ∑ r ∈ rows m c g, entry m c r d) (∑ r ∈ rows m c g, (1 : EReal))
        (fun d => m ((c : Thread nD τ).loc main_arg2) (ix2 g d)) (fun k d => m ((c : Thread nD τ).loc main_arg3) (ix2 k d))
        (fun k => m ((c : Thread nD τ).loc main_arg4) (ix1 k))))
    (fun k => m ((c : Thread nD τ).loc main_arg5) (ix1 k)) (fun k => m ((c : Thread nD τ).loc main_arg6) (ix1 k))
    (fun d => m ((c : Thread nD τ).loc main_arg7) (ix2 k d)) (m ((c : Thread nD τ).loc main_arg8) (ix1 k))

/-- Region 1's network is `value`. -/
theorem net_value (g : Fin 512) (k : Fin 256) : (netOf (V3 m ρ) c (ix2 g k) : EReal) = value m c g k := by
  refine (net_apply _ _ _ _ _ _ _ _ _ _).trans ?_
  obtain ⟨ε, hε, eε⟩ := ofBits_eps
  unfold value
  rw [ofBits_256, eε]
  have a2 : W3 m ρ c (Proc.devRef .tc main_arg2) = m ((c : Thread nD τ).loc main_arg2) := W3_args m ρ c main_arg2 (by decide)
  have a3 : W3 m ρ c (Proc.devRef .tc main_arg3) = m ((c : Thread nD τ).loc main_arg3) := W3_args m ρ c main_arg3 (by decide)
  have a7 : W3 m ρ c (Proc.devRef .tc main_arg7) = m ((c : Thread nD τ).loc main_arg7) := W3_args m ρ c main_arg7 (by decide)
  have hx : ∀ j, normMul ((256 : ℝ) : EReal) (ε : EReal) (first (fun d => (W3 m ρ c (Proc.devRef .tc main_v1_0) (ix2 g d) : EReal))
        (W3 m ρ c (Proc.devRef .tc main_v1_1) (ix2 g 0)) (fun d => W3 m ρ c (Proc.devRef .tc main_arg2) (ix2 g d))
        (fun k d => W3 m ρ c (Proc.devRef .tc main_arg3) (ix2 k d)) (fun k => W3 m ρ c (Proc.devRef .tc main_v2) (ix2 0 k))) j
      = normDiv ((256 : ℝ) : EReal) (ε : EReal) (first (fun d => ∑ r ∈ rows m c g, entry m c r d) (∑ r ∈ rows m c g, (1 : EReal))
        (fun d => m ((c : Thread nD τ).loc main_arg2) (ix2 g d)) (fun k d => m ((c : Thread nD τ).loc main_arg3) (ix2 k d))
        (fun k => m ((c : Thread nD τ).loc main_arg4) (ix1 k))) j := by
    rw [a2, a3, W3_counts, funext (W3_v2 m ρ c)]
    refine normMul_eq_normDiv (by norm_num) hε (fun k => same_first (fun d => ?_) _ _ _ _ _)
    rw [W3_sums]
    exact same_split _ _
  refine congr (congr (congr (congr (congrArg second (funext hx)) ?_) ?_) ?_) ?_
  · exact funext (W3_v3 m ρ c)
  · exact funext (W3_v4 m ρ c)
  · exact funext fun d => congrFun a7 (ix2 k d)
  · exact W3_v5 m ρ c k

/-- The second result of every run. -/
theorem W5_v6 (g : Fin 512) (k : Fin 256) : (W5 m ρ c (Proc.devRef .tc main_v6_0) (ix2 g k) : EReal) = value m c g k := by
  have e : W5 m ρ c (Proc.devRef .tc main_v6_0) = netOf (V3 m ρ) c :=
    (W5_of m ρ c main_v6_0 (by decide)).trans ((W4_arr m ρ c 9).trans (arr1_9 (V3 m ρ) c))
  exact (congrFun e _).trans (net_value m ρ c g k)

/-- The first half region 2 reads. -/
theorem W4_hi (g : Fin 512) (k : Fin 256) : (W4 m ρ c (Proc.devRef .tc main_v6_1) (ix2 g k) : EReal) = value m c g k :=
  ((congrFun (W4_arr m ρ c 10) _).trans (arr1_10 (V3 m ρ) c _)).trans (net_value m ρ c g k)

/-- The second half region 2 reads. -/
theorem W4_lo (g : Fin 512) (k : Fin 256) :
    (W4 m ρ c (Proc.devRef .tc main_v6_2) (ix2 g k) : EReal) = value m c g k - value m c g k :=
  ((congrFun (W4_arr m ρ c 11) _).trans (arr1_11 (V3 m ρ) c _)).trans (congrArg (fun e : EReal => e - e) (net_value m ρ c g k))

/-- A row naming group `g` hits `g` alone. -/
theorem sum_hit (b : BitVec 32) (g : Fin 512) (hb : b = BitVec.ofNat 32 g.val) (f : Fin 512 → EReal) :
    ∑ q : Fin 512, hit b q.val * f q = f g := by
  rw [Finset.sum_eq_single g]
  · rw [hit, if_pos hb, one_mul]
  · intro q _ hq
    rw [hit, if_neg, zero_mul]
    rw [hb]
    intro h
    refine hq (Fin.ext ?_)
    have := congrArg BitVec.toNat h
    simp only [BitVec.toNat_ofNat] at this
    omega
  · exact fun h => absurd (Finset.mem_univ g) h

/-- The first result of every run, at a row naming group `g` whose value is real. -/
theorem W5_v7 (r : Fin 50000) (d : Fin 256) (g : Fin 512) (hg : m ((c : Thread nD τ).loc main_arg1) (ix1 r) = BitVec.ofNat 32 g.val)
    (hv : IsReal (value m c g d)) : (W5 m ρ c (Proc.devRef .tc main_v7) (ix2 r d) : EReal)
      = entry m c r d + value m c g d := by
  have e0 : W4 m ρ c (Proc.devRef .tc main_v0) = W1 m ρ c (Proc.devRef .tc main_v0) :=
    ((W4_of m ρ c main_v0 (by decide)).trans (W3_of m ρ c main_v0 (by decide))).trans (W2_of m ρ c main_v0 (by decide))
  have eh : W4 m ρ c (Proc.devRef .tc main_arg0) = m ((c : Thread nD τ).loc main_arg0) := W4_args m ρ c main_arg0 (by decide)
  refine ((congrFun (W5_arr m ρ c 4) (ix2 r d)).trans (congrFun (arr2_4 (V4 m ρ) c) (ix2 r d))).trans ?_
  have hB : W4 m ρ c (Proc.devRef .tc main_v0) (ix3 ⟨r.val / 2000, by omega⟩ 0 ⟨r.val % 2000, by omega⟩) = BitVec.ofNat 32 g.val := by
    rw [e0, W1_v0, ← hg]
    exact congrArg (fun q => m ((c : Thread nD τ).loc main_arg1) (ix1 q)) (Fin.ext (Nat.div_add_mod' r.val 2000))
  refine congrArg₂ (fun a b : EReal => a + b) (congrFun eh _) ?_
  refine (congrArg₂ (fun a b : EReal => a + b) (sum_hit _ g hB fun q => W4 m ρ c (Proc.devRef .tc main_v6_1) (ix2 q d))
    (sum_hit _ g hB fun q => W4 m ρ c (Proc.devRef .tc main_v6_2) (ix2 q d))).trans ?_
  refine (congrArg₂ (fun a b : EReal => a + b) (W4_hi m ρ c g d) (W4_lo m ρ c g d)).trans ?_
  exact add_sub_self hv

/-- The network's values are real when the second layer's parameters are: a normalised row always is. -/
theorem value_real (hγ : ∀ k : Fin 256, IsReal (m ((c : Thread nD τ).loc main_arg5) (ix1 k)))
    (hβ : ∀ k : Fin 256, IsReal (m ((c : Thread nD τ).loc main_arg6) (ix1 k)))
    (hw : ∀ k d : Fin 256, IsReal (m ((c : Thread nD τ).loc main_arg7) (ix2 k d)))
    (hb : ∀ k : Fin 256, IsReal (m ((c : Thread nD τ).loc main_arg8) (ix1 k))) (g : Fin 512) (k : Fin 256) : IsReal (value m c g k) := by
  obtain ⟨ε, hε, eε⟩ := ofBits_eps
  unfold value
  rw [ofBits_256, eε]
  exact fin_second (fin_normDiv (by norm_num) hε _) hγ hβ (hw k) (hb k)

end Cert.KernelIdeal.Own
-- ==== Proof.ReferenceIdeal.Value.lean ====
/- What the reference returns, element by element over the extended reals. -/
module

public import proofs.«01_k».proof.Proof.Gen.ReferenceIdeal.Run
public import proofs.«01_k».proof.Proof.Math
public import Idealize.ShloMosaic.Lib.Pipeline.ValueKit
public import Idealize.ShloMosaic.Lib.Routing.OpsPair

@[expose] public section

-- indices of the arrays' extents are looked into once per coordinate
set_option maxRecDepth 16384

noncomputable section

namespace Cert.ReferenceIdeal.Own

open Cert.ReferenceIdeal Cert.ReferenceIdeal.Gen Cert.Own.Math
open Idealize.ShloMosaic Idealize.ShloMosaic.TcCoe Idealize.SL.Sem

/-- The group sums: the rows of `h` added at the rows `batch` names. -/
def sums (batch : IVec S50000 32) (h : FVec Ideal S50000x256 .f32) : FVec Ideal S512x256 .f32 :=
  Host.scatterAdd scatter_S512x256_S50000x1_S50000x256_1_0_0_1 (broadcastInDim S512x256 ![] bcast_S_S512x256 (constant S_ .f32 0x00000000#32))
    (broadcastInDim S50000x1 ![0] bcast_S50000_S50000x1_0 batch) h

/-- The group counts: ones added at the rows `batch` names. -/
def counts (batch : IVec S50000 32) : FVec Ideal S512x1 .f32 :=
  Host.scatterAdd scatter_S512x1_S50000x1_S50000x1_1_0_0_1 (broadcastInDim S512x1 ![] bcast_S_S512x1 (constant S_ .f32 0x00000000#32))
    (broadcastInDim S50000x1 ![0] bcast_S50000_S50000x1_0 batch) (broadcastInDim S50000x1 ![] bcast_S_S50000x1 (constant S_ .f32 0x3F800000#32))

/-- The first layer. -/
def layer (s : FVec Ideal S512x256 .f32) (n : FVec Ideal S512x1 .f32) (v : FVec Ideal S512x256 .f32) (w : FVec Ideal S256x256 .f32)
    (b : FVec Ideal S256 .f32) : FVec Ideal S512x256 .f32 :=
  addf (Host.dotGeneral dot_S512x256_S256x256_S512x256_1_0_0_1_n_n none (addf (Host.divf s (broadcastInDim S512x256 ![0, 1] bcast_S512x1_S512x256_0_1
      (maximumf n (broadcastInDim S512x1 ![] bcast_S_S512x1 (constant S_ .f32 0x3F800000#32))))) v)
    (transpose S256x256 [1, 0] w transposes_S256x256_S256x256_1_0))
    (broadcastInDim S512x256 ![0, 1] bcast_S1x256_S512x256_0_1 (broadcastInDim S1x256 ![1] bcast_S256_S1x256_1 b))

/-- Every row's mean, repeated along the row. -/
def means (x : FVec Ideal S512x256 .f32) : FVec Ideal S512x256 .f32 :=
  broadcastInDim S512x256 ![0, 1] bcast_S512x1_S512x256_0_1 (Host.divf (broadcastInDim S512x1 ![0] bcast_S512_S512x1_0
    (Host.reduceAdd x (constant S_ .f32 0x00000000#32) reducesTo_S512x256_S512_d1 h_S_)) (broadcastInDim S512x1 ![] bcast_S_S512x1 (constant S_ .f32 0x43800000#32)))

/-- The rows normalised. -/
def normed (x : FVec Ideal S512x256 .f32) : FVec Ideal S512x256 .f32 :=
  Host.divf (subf x (means x)) (broadcastInDim S512x256 ![0, 1] bcast_S512x1_S512x256_0_1 (Host.sqrt (addf
    (Host.divf (broadcastInDim S512x1 ![0] bcast_S512_S512x1_0 (Host.reduceAdd (mulf (subf x (means x)) (subf x (means x)))
      (constant S_ .f32 0x00000000#32) reducesTo_S512x256_S512_d1 h_S_)) (broadcastInDim S512x1 ![] bcast_S_S512x1 (constant S_ .f32 0x43800000#32)))
    (broadcastInDim S512x1 ![] bcast_S_S512x1 (constant S_ .f32 0x3727C5AC#32)))))

/-- The second layer. -/
def layer₂ (y : FVec Ideal S512x256 .f32) (γ β : FVec Ideal S256 .f32) (w : FVec Ideal S256x256 .f32) (b : FVec Ideal S256 .f32) :
    FVec Ideal S512x256 .f32 :=
  addf (Host.dotGeneral dot_S512x256_S256x256_S512x256_1_0_0_1_n_n none (maximumf (addf (mulf y
      (broadcastInDim S512x256 ![0, 1] bcast_S1x256_S512x256_0_1 (broadcastInDim S1x256 ![1] bcast_S256_S1x256_1 γ)))
      (broadcastInDim S512x256 ![0, 1] bcast_S1x256_S512x256_0_1 (broadcastInDim S1x256 ![1] bcast_S256_S1x256_1 β)))
      (broadcastInDim S512x256 ![] bcast_S_S512x256 (constant S_ .f32 0x00000000#32)))
    (transpose S256x256 [1, 0] w transposes_S256x256_S256x256_1_0))
    (broadcastInDim S512x256 ![0, 1] bcast_S1x256_S512x256_0_1 (broadcastInDim S1x256 ![1] bcast_S256_S1x256_1 b))

/-- The second result of the arguments. -/
def net (batch : IVec S50000 32) (h : FVec Ideal S50000x256 .f32) (v : FVec Ideal S512x256 .f32) (w₁ : FVec Ideal S256x256 .f32)
    (b₁ γ β : FVec Ideal S256 .f32) (w₂ : FVec Ideal S256x256 .f32) (b₂ : FVec Ideal S256 .f32) : FVec Ideal S512x256 .f32 :=
  layer₂ (normed (layer (sums batch h) (counts batch) v w₁ b₁)) γ β w₂ b₂

/-- The first result: the rows of `h` plus the rows of `o` that `batch` names. -/
def spread (batch : IVec S50000 32) (h : FVec Ideal S50000x256 .f32) (o : FVec Ideal S512x256 .f32) : FVec Ideal S50000x256 .f32 :=
  addf h (Host.gather gather_S512x256_S50000x1_S50000x256_1_0_n_n_0_1_1256 o (broadcastInDim S50000x1 ![0] bcast_S50000_S50000x1_0
    (select (cmpi .slt batch (broadcastInDim S50000 ![] bcast_S_S50000 (constantI S_ 32 0#32)))
      (addi batch (broadcastInDim S50000 ![] bcast_S_S50000 (constantI S_ 32 512#32))) batch)))

section
variable (m : (ℓ : Loc nD τ sig) → Buf (Elt Ideal) ℓ) (c : Dev nD)

/-- The run's second result is `net` of the arguments. -/
theorem res1_eq : Value.res_main_v46 m c = net (m ((c.tc : Thread nD τ).loc main_arg1)) (m ((c.tc : Thread nD τ).loc main_arg0))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) := rfl

/-- The run's first result is `spread` of the second. -/
theorem res0_eq : Value.res_main_v54 m c = spread (m ((c.tc : Thread nD τ).loc main_arg1)) (m ((c.tc : Thread nD τ).loc main_arg0))
    (Value.res_main_v46 m c) := rfl

end

/-- The first layer at an element. -/
theorem layer_apply (s : FVec Ideal S512x256 .f32) (n : FVec Ideal S512x1 .f32) (v : FVec Ideal S512x256 .f32) (w : FVec Ideal S256x256 .f32)
    (b : FVec Ideal S256 .f32) (g : Fin 512) (k : Fin 256) : layer s n v w b (ix2 g k)
      = first (fun d => s (ix2 g d)) (n (ix2 g 0)) (fun d => v (ix2 g d)) (fun k d => w (ix2 k d)) (fun k => b (ix1 k)) k := by
  pointwise [layer]
  rfl

/-- A normalised row at an element. -/
theorem normed_apply (x : FVec Ideal S512x256 .f32) (g : Fin 512) (k : Fin 256) : normed x (ix2 g k)
      = normDiv (Ideal.ofBits .f32 1132462080#32) (Ideal.ofBits .f32 925353388#32) (fun k => x (ix2 g k)) k := by
  pointwise [normed, means]
  rfl

/-- The second layer at an element. -/
theorem layer₂_apply (y : FVec Ideal S512x256 .f32) (γ β : FVec Ideal S256 .f32) (w : FVec Ideal S256x256 .f32) (b : FVec Ideal S256 .f32)
    (g : Fin 512) (k : Fin 256) : layer₂ y γ β w b (ix2 g k)
      = second (fun d => y (ix2 g d)) (fun d => γ (ix1 d)) (fun d => β (ix1 d)) (fun d => w (ix2 k d)) (b (ix1 k)) := by
  pointwise [layer₂]
  rfl

end Cert.ReferenceIdeal.Own
-- ==== Proof.ReferenceIdeal.Rows.lean ====
/- The reference's group sums and counts as sums over the rows a group's index names, and the rows it gathers back. -/
module

public import proofs.«01_k».proof.Proof.ReferenceIdeal.Value
public import Idealize.ShloMosaic.Lib.Routing.Ops

@[expose] public section

-- indices of the arrays' extents are looked into once per coordinate
set_option maxRecDepth 16384

noncomputable section

namespace Cert.ReferenceIdeal.Own

open Cert.ReferenceIdeal Cert.ReferenceIdeal.Gen Cert.Own.Math
open Idealize.ShloMosaic Idealize.ShloMosaic.TcCoe Idealize.ShloMosaic.Routing

/-- The group numbers as a column, read at a row. -/
theorem column_apply (batch : IVec S50000 32) (k : S50000x1.Idx) :
    broadcastInDim S50000x1 ![0] bcast_S50000_S50000x1_0 batch k = batch (ix1 (k 0)) := by
  pointwise

/-- A word read signed is the row number `g` exactly when it is the word of `g`. -/
theorem toInt_eq_iff (x : BitVec 32) (g : Fin 512) : x.toInt = (g.val : Int) ↔ x = BitVec.ofNat 32 g.val := by
  have hg : (BitVec.ofNat 32 g.val).toInt = (g.val : Int) := StableHlo.Predicate.toInt_ofNat_small _ (by omega)
  rw [← hg]
  exact ⟨BitVec.eq_of_toInt_eq, fun h => by rw [h]⟩

/-- Row `r`'s entry `e` is added at row `g`, entry `d` exactly when the row's group number is `g` and `e` is `d`. -/
theorem lands (batch : IVec S50000 32) (k : S50000x256.Idx) (g : Fin 512) (d : Fin 256) :
    scatter_S512x256_S50000x1_S50000x256_1_0_0_1.resultIdx? k (broadcastInDim S50000x1 ![0] bcast_S50000_S50000x1_0 batch)
      = some (ix2 g d) ↔ batch (ix1 (k 0)) = BitVec.ofNat 32 g.val ∧ k 1 = d := by
  refine (resultIdx?_ix2 (R := 512) (C := 256) _ _ _ g d).trans ?_
  have h0 : scatter_S512x256_S50000x1_S50000x256_1_0_0_1.window k 0 = 0 := rfl
  have h1 : scatter_S512x256_S50000x1_S50000x256_1_0_0_1.window k 1 = (k 1).val := rfl
  have s0 : scatter_S512x256_S50000x1_S50000x256_1_0_0_1.start k (broadcastInDim S50000x1 ![0] bcast_S50000_S50000x1_0 batch) 0
      = (batch (ix1 (k 0))).toInt := by
    unfold ScatterDims.start
    rw [dif_pos (by decide), column_apply]
    rfl
  have s1 : scatter_S512x256_S50000x1_S50000x256_1_0_0_1.start k (broadcastInDim S50000x1 ![0] bcast_S50000_S50000x1_0 batch) 1
      = 0 := rfl
  rw [h0, h1, s0, s1, Nat.cast_zero, add_zero, zero_add, toInt_eq_iff]
  exact and_congr_right fun _ => ⟨fun e => Fin.ext (Int.ofNat.inj e), fun e => congrArg (fun x : Fin 256 => (x.val : Int)) e⟩

/-- Row `r`'s one is added at row `g` exactly when the row's group number is `g`. -/
theorem lands_count (batch : IVec S50000 32) (k : S50000x1.Idx) (g : Fin 512) :
    scatter_S512x1_S50000x1_S50000x1_1_0_0_1.resultIdx? k (broadcastInDim S50000x1 ![0] bcast_S50000_S50000x1_0 batch)
      = some (ix2 g 0) ↔ batch (ix1 (k 0)) = BitVec.ofNat 32 g.val := by
  refine (resultIdx?_ix2 (R := 512) (C := 1) _ _ _ g 0).trans ?_
  have h0 : scatter_S512x1_S50000x1_S50000x1_1_0_0_1.window k 0 = 0 := rfl
  have h1 : scatter_S512x1_S50000x1_S50000x1_1_0_0_1.window k 1 = (k 1).val := rfl
  have s0 : scatter_S512x1_S50000x1_S50000x1_1_0_0_1.start k (broadcastInDim S50000x1 ![0] bcast_S50000_S50000x1_0 batch) 0
      = (batch (ix1 (k 0))).toInt := by
    unfold ScatterDims.start
    rw [dif_pos (by decide), column_apply]
    rfl
  have s1 : scatter_S512x1_S50000x1_S50000x1_1_0_0_1.start k (broadcastInDim S50000x1 ![0] bcast_S50000_S50000x1_0 batch) 1
      = 0 := rfl
  have hk : (k 1).val = 0 := Nat.lt_one_iff.1 (k 1).isLt
  rw [h0, h1, s0, s1, hk, Nat.cast_zero, add_zero, toInt_eq_iff]
  exact and_iff_left rfl

/-- A group's sum is the sum of the rows its number names. -/
theorem sums_apply (batch : IVec S50000 32) (h : FVec Ideal S50000x256 .f32) (g : Fin 512) (d : Fin 256) :
    sums batch h (ix2 g d) = ∑ r : Fin 50000 with batch (ix1 r) = BitVec.ofNat 32 g.val, (h (ix2 r d) : EReal) := by
  have e : sums batch h (ix2 g d) = (0 : EReal) + ∑ k ∈ Finset.univ.filter (fun k : S50000x256.Idx =>
      scatter_S512x256_S50000x1_S50000x256_1_0_0_1.resultIdx? k (broadcastInDim S50000x1 ![0] bcast_S50000_S50000x1_0 batch) = some (ix2 g d)), (h k : EReal) := by
    unfold sums Host.scatterAdd
    rw [Ideal.hostScatterAdd_def]
    unfold Ideal.hostScatterAdd
    congr 1
    pointwise
  rw [e, zero_add]
  refine Finset.sum_nbij' (fun k => k 0) (fun r => ix2 r d) ?_ ?_ ?_ ?_ ?_
  · intro k hk
    rw [Finset.mem_filter, lands] at hk
    exact Finset.mem_filter.2 ⟨Finset.mem_univ _, hk.2.1⟩
  · intro r hr
    rw [Finset.mem_filter] at hr
    exact Finset.mem_filter.2 ⟨Finset.mem_univ _, (lands _ _ _ _).2 ⟨hr.2, rfl⟩⟩
  · intro k hk
    rw [Finset.mem_filter, lands] at hk
    rw [← hk.2.2]
    funext a
    match a with
    | ⟨0, _⟩ => rfl
    | ⟨1, _⟩ => rfl
  · intro r hr; rfl
  · intro k hk
    rw [Finset.mem_filter, lands] at hk
    rw [← hk.2.2]
    refine congrArg h (funext fun a => ?_)
    match a with
    | ⟨0, _⟩ => rfl
    | ⟨1, _⟩ => rfl

/-- A group's count is the number of rows its number names. -/
theorem counts_apply (batch : IVec S50000 32) (g : Fin 512) :
    counts batch (ix2 g 0) = ∑ r : Fin 50000 with batch (ix1 r) = BitVec.ofNat 32 g.val, (1 : EReal) := by
  have e : counts batch (ix2 g 0) = (0 : EReal) + ∑ k ∈ Finset.univ.filter (fun k : S50000x1.Idx =>
      scatter_S512x1_S50000x1_S50000x1_1_0_0_1.resultIdx? k (broadcastInDim S50000x1 ![0] bcast_S50000_S50000x1_0 batch) = some (ix2 g 0)), (1 : EReal) := by
    unfold counts Host.scatterAdd
    rw [Ideal.hostScatterAdd_def]
    unfold Ideal.hostScatterAdd
    refine congrArg₂ (fun a b : EReal => a + b) ?_ (Finset.sum_congr rfl fun k _ => ?_)
    · pointwise
    · pointwise
  rw [e, zero_add]
  refine Finset.sum_nbij' (fun k => k 0) (fun r => ix2 r 0) ?_ ?_ ?_ ?_ ?_
  · intro k hk
    rw [Finset.mem_filter, lands_count] at hk
    exact Finset.mem_filter.2 ⟨Finset.mem_univ _, hk.2⟩
  · intro r hr
    rw [Finset.mem_filter] at hr
    exact Finset.mem_filter.2 ⟨Finset.mem_univ _, (lands_count _ _ _).2 hr.2⟩
  · intro k hk
    funext a
    match a with
    | ⟨0, _⟩ => rfl
    | ⟨1, _⟩ => exact (Subsingleton.elim (α := Fin 1) _ _)
  · intro r hr; rfl
  · intro k hk; rfl

/-- The row gathered for row `r` is the row its group number names. -/
theorem spread_apply (batch : IVec S50000 32) (h : FVec Ideal S50000x256 .f32) (o : FVec Ideal S512x256 .f32) (r : Fin 50000) (d : Fin 256)
    (g : Fin 512) (hg : batch (ix1 r) = BitVec.ofNat 32 g.val) : spread batch h o (ix2 r d) = (h (ix2 r d) : EReal) + o (ix2 g d) := by
  have hw : Scalar.select (IntOp.cmpi .slt (batch (ix1 r)) 0#32) (IntOp.addi (batch (ix1 r)) 512#32) (batch (ix1 r)) = batch (ix1 r) := by
    refine wrap_of_lt _ _ ?_
    rw [hg, BitVec.toNat_ofNat]
    omega
  have e : Host.gather gather_S512x256_S50000x1_S50000x256_1_0_n_n_0_1_1256 o (broadcastInDim S50000x1 ![0] bcast_S50000_S50000x1_0
    (select (cmpi .slt batch (broadcastInDim S50000 ![] bcast_S_S50000 (constantI S_ 32 0#32)))
      (addi batch (broadcastInDim S50000 ![] bcast_S_S50000 (constantI S_ 32 512#32))) batch)) (ix2 r d) = o (ix2 g d) := by
    refine gather_row (nb := 512) (B := 256) (n := 50000) _ rfl rfl rfl rfl rfl o _ r d g ?_ (by norm_num)
    rw [column_apply]
    refine Eq.trans ?_ (hw.trans hg)
    pointwise
  unfold spread
  exact congrArg (fun z : EReal => (h (ix2 r d) : EReal) + z) e

end Cert.ReferenceIdeal.Own
-- ==== Proof.Equal.lean ====
/- The kernel's results are the reference's. -/
module

public import proofs.«01_k».proof.Proof.KernelIdeal.Entries
public import proofs.«01_k».proof.Proof.ReferenceIdeal.Rows

@[expose] public section

-- indices of the arrays' extents are looked into once per coordinate
set_option maxRecDepth 16384

noncomputable section

namespace Cert.Own

open Cert.Own.Math
open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD)

/-- The reference's second result of the kernel's arguments. -/
abbrev netRef : FVec Ideal Cert.ReferenceIdeal.S512x256 .f32 :=
  Cert.ReferenceIdeal.Own.net (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
    (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- The reference's network is `value`. -/
theorem netRef_apply (g : Fin 512) (k : Fin 256) : (netRef m c (ix2 g k) : EReal) = Cert.KernelIdeal.Own.value m c g k := by
  refine (Cert.ReferenceIdeal.Own.layer₂_apply _ _ _ _ _ g k).trans ?_
  refine congrArg (fun x : Fin 256 → EReal => second x _ _ _ _) (funext fun j => ?_)
  refine (Cert.ReferenceIdeal.Own.normed_apply _ g j).trans ?_
  refine congrArg (fun x : Fin 256 → EReal => normDiv _ _ x j) (funext fun i => ?_)
  refine (Cert.ReferenceIdeal.Own.layer_apply _ _ _ _ _ g i).trans ?_
  exact congrArg₂ (fun (s : Fin 256 → EReal) (n : EReal) => first s n _ _ _ i)
    (funext fun d => Cert.ReferenceIdeal.Own.sums_apply _ _ g d) (Cert.ReferenceIdeal.Own.counts_apply _ g)

/-- The second results agree, whatever the arguments. -/
theorem second_eq : Cert.KernelIdeal.Own.W5 m ρ c (Proc.devRef .tc Cert.KernelIdeal.main_v6_0) = netRef m c := by
  refine funext fun (j : Cert.KernelIdeal.S512x256.Idx) => ?_
  obtain ⟨g, k, rfl⟩ : ∃ (g : Fin 512) (k : Fin 256), j = ix2 g k := ⟨j 0, j 1, (ix2_eta j).symm⟩
  exact (Cert.KernelIdeal.Own.W5_v6 m ρ c g k).trans (netRef_apply m c g k).symm

/-- The first results agree when every row names a group and the second layer's parameters are real. -/
theorem first_eq (hn : ∀ r : Fin 50000, ∃ g : Fin 512, m ((c.tc : Thread Cert.KernelIdeal.nD Cert.KernelIdeal.τ).loc Cert.KernelIdeal.main_arg1) (ix1 r) = BitVec.ofNat 32 g.val)
    (hγ : ∀ k : Fin 256, IsReal (m ((c.tc : Thread Cert.KernelIdeal.nD Cert.KernelIdeal.τ).loc Cert.KernelIdeal.main_arg5) (ix1 k))) (hβ : ∀ k : Fin 256, IsReal (m ((c.tc : Thread Cert.KernelIdeal.nD Cert.KernelIdeal.τ).loc Cert.KernelIdeal.main_arg6) (ix1 k)))
    (hw : ∀ k d : Fin 256, IsReal (m ((c.tc : Thread Cert.KernelIdeal.nD Cert.KernelIdeal.τ).loc Cert.KernelIdeal.main_arg7) (ix2 k d))) (hb : ∀ k : Fin 256, IsReal (m ((c.tc : Thread Cert.KernelIdeal.nD Cert.KernelIdeal.τ).loc Cert.KernelIdeal.main_arg8) (ix1 k))) :
    Cert.KernelIdeal.Own.W5 m ρ c (Proc.devRef .tc Cert.KernelIdeal.main_v7)
      = Cert.ReferenceIdeal.Own.spread (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (netRef m c) := by
  refine funext fun (j : Cert.KernelIdeal.S50000x256.Idx) => ?_
  obtain ⟨r, d, rfl⟩ : ∃ (r : Fin 50000) (d : Fin 256), j = ix2 r d := ⟨j 0, j 1, (ix2_eta j).symm⟩
  obtain ⟨g, hg⟩ := hn r
  refine (Cert.KernelIdeal.Own.W5_v7 m ρ c r d g hg (Cert.KernelIdeal.Own.value_real m c hγ hβ hw hb g d)).trans ?_
  refine Eq.trans ?_ (Cert.ReferenceIdeal.Own.spread_apply _ _ _ r d g hg).symm
  exact congrArg (fun e : EReal => Cert.KernelIdeal.Own.entry m c r d + e) (netRef_apply m c g d).symm

end Cert.Own
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal
public import proofs.«01_k».proof.Proof.Kernel.Run
public import proofs.«01_k».proof.Proof.KernelIdeal.Run
public import proofs.«01_k».proof.Proof.Condition
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed: every fair run ends, the arguments unchanged, every semaphore at zero. -/
theorem frame_kernel : Cert.quiescent_Kernel := fun m ρ _ => Cert.Kernel.Own.run_args (F := Bits) m ρ

/-- The ideal kernel: every fair run ends, the arguments unchanged, every semaphore at zero. -/
theorem frame_ideal : Cert.quiescent_KernelIdeal := fun m ρ _ => Cert.KernelIdeal.Own.run_args (F := Ideal) m ρ

/-- The reference: every fair run ends, the arguments unchanged; it has no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The ideal kernel and the reference, run from equal arguments that satisfy the precondition, end with equal results and
    unchanged arguments. -/
theorem algebraic : Cert.algebraic_KernelIdeal_ReferenceIdeal_pre_rows_named_and_finite := by
  intro m g m' g' hpre hargs
  have hnet : ∀ c : Dev Cert.KernelIdeal.nD, Cert.ReferenceIdeal.Value.res_main_v46 m' c = Cert.Own.netRef m c := fun c => by
    obtain ⟨h0, h1, h2, h3, h4, h5, h6, h7, h8, -⟩ := hargs c
    refine (Cert.ReferenceIdeal.Own.res1_eq m' c).trans ?_
    rw [h0, h1, h2, h3, h4, h5, h6, h7, h8]
  have hfirst : ∀ c : Dev Cert.KernelIdeal.nD,
      Cert.ReferenceIdeal.Value.res_main_v54 m' c = Cert.KernelIdeal.Own.W5 m g c (Proc.devRef .tc Cert.KernelIdeal.main_v7) := fun c => by
    obtain ⟨h0, h1, -⟩ := hargs c
    obtain ⟨hn, hγ, hβ, hw, hb⟩ := Cert.Pre_rows_named_and_finite.Own.decode _ _ _ _ _ _ _ _ _ _ (hpre c)
    refine (Cert.ReferenceIdeal.Own.res0_eq m' c).trans ?_
    rw [hnet c, h0, h1]
    exact (Cert.Own.first_eq m g c hn hγ hβ hw hb).symm
  refine ⟨fun c => Cert.KernelIdeal.Own.W5 m g c (Proc.devRef .tc Cert.KernelIdeal.main_v7),
    fun c => Cert.KernelIdeal.Own.W5 m g c (Proc.devRef .tc Cert.KernelIdeal.main_v6_0), ?_, ?_⟩
  · refine (θ_run Cert.KernelIdeal.defs _ _).mono (fun r h c => ?_) (Cert.KernelIdeal.Own.run_main (F := Ideal) m g)
    have arg : ∀ a ∈ Cert.KernelIdeal.Own.argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hs => (h.1 c _ (Cert.KernelIdeal.Own.mem_uc a hs)).trans (Cert.KernelIdeal.Own.W5_args m g c a ha)
    exact ⟨h.1 c _ (Cert.KernelIdeal.Own.mem_uc _ (by decide)), h.1 c _ (Cert.KernelIdeal.Own.mem_uc _ (by decide)),
      arg _ (by decide) (by decide), arg _ (by decide) (by decide), arg _ (by decide) (by decide), arg _ (by decide) (by decide), arg _ (by decide) (by decide), arg _ (by decide) (by decide), arg _ (by decide) (by decide), arg _ (by decide) (by decide), arg _ (by decide) (by decide), arg _ (by decide) (by decide)⟩
  · refine (θ_run Cert.ReferenceIdeal.defs _ _).mono (fun r h c => ?_) (Cert.ReferenceIdeal.Value.run (F := Ideal) m' g')
    exact ⟨(h c).1.trans (hfirst c), (h c).2.1.trans ((hnet c).trans (Cert.Own.second_eq m g c).symm), (h c).2.2⟩

/-- Every claim. -/
theorem claim : Cert.Claim := ⟨Cert.Kernel.Gen.facts, Cert.KernelIdeal.Gen.facts, Cert.ReferenceIdeal.Gen.facts,
  Cert.Pre_rows_named_and_finite.Own.facts,
  frame_kernel, frame_ideal, fun m ρ _ => Cert.KernelIdeal.Own.run_args (F := Ideal) m ρ, frame_reference,
  fun m ρ _ => frame_reference m ρ trivial, trivial, algebraic⟩

end Cert.Proof

end
